-- ==== Defs.lean ====
def Pre_Kernel [hPre_in_vocab : Cert.Pre_in_vocab.Facts] (m : (ℓ : Loc Cert.Kernel.nD Cert.Kernel.τ Cert.Kernel.sig) → Buf (Elt Bits) ℓ) : Prop :=
  ∀ c : Dev Cert.Kernel.nD,
    (Cert.Pre_in_vocab.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_in_vocab : Cert.Pre_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_vocab [hPre_in_vocab : Cert.Pre_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_in_vocab : Cert.Pre_in_vocab.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_in_vocab [hReferenceIdeal : Cert.ReferenceIdeal.Facts] [hPre_in_vocab : Cert.Pre_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_vocab : Cert.Pre_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_vocab : Cert.Pre_in_vocab.Facts),
    quiescent_Kernel (hKernel := hKernel) (hPre_in_vocab := hPre_in_vocab)
    ∧ quiescent_KernelIdeal (hKernelIdeal := hKernelIdeal) (hPre_in_vocab := hPre_in_vocab)
    ∧ quiescent_ReferenceIdeal (hReferenceIdeal := hReferenceIdeal)
    ∧ quiescent_ReferenceIdeal_pre_in_vocab (hReferenceIdeal := hReferenceIdeal) (hPre_in_vocab := hPre_in_vocab)
    ∧ preserves_Kernel_KernelIdeal
    ∧ algebraic_KernelIdeal_ReferenceIdeal (hKernelIdeal := hKernelIdeal) (hReferenceIdeal := hReferenceIdeal) (hPre_in_vocab := hPre_in_vocab)
-- ==== Pre_in_vocab.lean ====
abbrev S16384x26 : Shape := ⟨2, ![16384, 26]⟩
abbrev S16384x13 : Shape := ⟨2, ![16384, 13]⟩
abbrev S26x100000x16 : Shape := ⟨3, ![26, 100000, 16]⟩
abbrev S429x1 : Shape := ⟨2, ![429, 1]⟩
abbrev S1 : Shape := ⟨1, ![1]⟩
abbrev S429x16 : Shape := ⟨2, ![429, 16]⟩
abbrev S429x256 : Shape := ⟨2, ![429, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : IVec S16384x26 32) (main_arg1 : FVec F S16384x13 .f32) (main_arg2 : FVec F S26x100000x16 .f32) (main_arg3 : FVec F S429x1 .f32) (main_arg4 : FVec F S1 .f32) (main_arg5 : FVec F S429x16 .f32) (main_arg6 : FVec F S429x256 .f32) (main_arg7 : FVec F S256 .f32) (main_arg8 : FVec F S256x128 .f32) (main_arg9 : FVec F S128 .f32) (main_arg10 : FVec F S128x1 .f32) (main_arg11 : FVec F S1 .f32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 100000#32
  let main_v2 : IVec S16384x26 32 := broadcastInDim S16384x26 ![] bcast_S_S16384x26 main_c_0
  let main_v3 : IVec S16384x26 1 := cmpi .slt main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Kernel.lean ====
abbrev S16384x26 : Shape := ⟨2, ![16384, 26]⟩
abbrev S16384x13 : Shape := ⟨2, ![16384, 13]⟩
abbrev S26x100000x16 : Shape := ⟨3, ![26, 100000, 16]⟩
abbrev S429x1 : Shape := ⟨2, ![429, 1]⟩
abbrev S1 : Shape := ⟨1, ![1]⟩
abbrev S429x16 : Shape := ⟨2, ![429, 16]⟩
abbrev S429x256 : Shape := ⟨2, ![429, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S26 : Shape := ⟨1, ![26]⟩
abbrev S_ : Shape := ⟨0, ![]⟩
abbrev S1x26 : Shape := ⟨2, ![1, 26]⟩
abbrev S425984 : Shape := ⟨1, ![425984]⟩
abbrev S2600000x16 : Shape := ⟨2, ![2600000, 16]⟩
abbrev S425984x16 : Shape := ⟨2, ![425984, 16]⟩
abbrev S13312 : Shape := ⟨1, ![13312]⟩
abbrev S2x1664x16 : Shape := ⟨3, ![2, 1664, 16]⟩
abbrev S1x1664x16 : Shape := ⟨3, ![1, 1664, 16]⟩
abbrev S1664x16 : Shape := ⟨2, ![1664, 16]⟩
abbrev S1664 : Shape := ⟨1, ![1664]⟩
abbrev S16384x416 : Shape := ⟨2, ![16384, 416]⟩
abbrev S16384x16 : Shape := ⟨2, ![16384, 16]⟩
abbrev S416x256 : Shape := ⟨2, ![416, 256]⟩
abbrev S13x256 : Shape := ⟨2, ![13, 256]⟩
abbrev S16x256 : Shape := ⟨2, ![16, 256]⟩
abbrev S416x1 : Shape := ⟨2, ![416, 1]⟩
abbrev S416 : Shape := ⟨1, ![416]⟩
abbrev S1x416 : Shape := ⟨2, ![1, 416]⟩
abbrev S13x1 : Shape := ⟨2, ![13, 1]⟩
abbrev S13 : Shape := ⟨1, ![13]⟩
abbrev S16 : Shape := ⟨1, ![16]⟩
abbrev S1x16 : Shape := ⟨2, ![1, 16]⟩
abbrev S416x16 : Shape := ⟨2, ![416, 16]⟩
abbrev S13x16 : Shape := ⟨2, ![13, 16]⟩
abbrev S16x16 : Shape := ⟨2, ![16, 16]⟩
abbrev S1x128 : Shape := ⟨2, ![1, 128]⟩
abbrev S1x256 : Shape := ⟨2, ![1, 256]⟩
abbrev S1x1 : Shape := ⟨2, ![1, 1]⟩
abbrev S16384x1 : Shape := ⟨2, ![16384, 1]⟩
abbrev S1024x416 : Shape := ⟨2, ![1024, 416]⟩
abbrev S1024x16 : Shape := ⟨2, ![1024, 16]⟩
abbrev S1024x1 : Shape := ⟨2, ![1024, 1]⟩
abbrev S1024x256 : Shape := ⟨2, ![1024, 256]⟩
abbrev S1024x128 : Shape := ⟨2, ![1024, 128]⟩
abbrev S1024 : Shape := ⟨1, ![1024]⟩

abbrev nBuf : Table → Nat
  | .hbm => 54
  | .local .tc .vmem => 19
  | .local .scVector .vmem => 2
  | _ => 0

abbrev bufTy : (tb : Table) → Fin (nBuf tb) → BufTy
  | .hbm, ⟨0, _⟩ => ⟨S16384x26, .i32⟩
  | .hbm, ⟨1, _⟩ => ⟨S16384x13, .f32⟩
  | .hbm, ⟨2, _⟩ => ⟨S26x100000x16, .f32⟩
  | .hbm, ⟨3, _⟩ => ⟨S429x1, .f32⟩
  | .hbm, ⟨4, _⟩ => ⟨S1, .f32⟩
  | .hbm, ⟨5, _⟩ => ⟨S429x16, .f32⟩
  | .hbm, ⟨6, _⟩ => ⟨S429x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S26, .i32⟩
  | .hbm, ⟨13, _⟩ => ⟨S_, .i32⟩
  | .hbm, ⟨14, _⟩ => ⟨S26, .i32⟩
  | .hbm, ⟨15, _⟩ => ⟨S26, .i32⟩
  | .hbm, ⟨16, _⟩ => ⟨S1x26, .i32⟩
  | .hbm, ⟨17, _⟩ => ⟨S16384x26, .i32⟩
  | .hbm, ⟨18, _⟩ => ⟨S16384x26, .i32⟩
  | .hbm, ⟨19, _⟩ => ⟨S425984, .i32⟩
  | .hbm, ⟨20, _⟩ => ⟨S2600000x16, .f32⟩
  | .hbm, ⟨21, _⟩ => ⟨S425984x16, .f32⟩
  | .hbm, ⟨22, _⟩ => ⟨S16384x416, .f32⟩
  | .hbm, ⟨23, _⟩ => ⟨S_, .i32⟩
  | .hbm, ⟨24, _⟩ => ⟨S_, .f32⟩
  | .hbm, ⟨25, _⟩ => ⟨S16384x16, .f32⟩
  | .hbm, ⟨26, _⟩ => ⟨S416x256, .f32⟩
  | .hbm, ⟨27, _⟩ => ⟨S13x256, .f32⟩
  | .hbm, ⟨28, _⟩ => ⟨S_, .i32⟩
  | .hbm, ⟨29, _⟩ => ⟨S_, .f32⟩
  | .hbm, ⟨30, _⟩ => ⟨S16x256, .f32⟩
  | .hbm, ⟨31, _⟩ => ⟨S416x1, .f32⟩
  | .hbm, ⟨32, _⟩ => ⟨S416, .f32⟩
  | .hbm, ⟨33, _⟩ => ⟨S1x416, .f32⟩
  | .hbm, ⟨34, _⟩ => ⟨S13x1, .f32⟩
  | .hbm, ⟨35, _⟩ => ⟨S13, .f32⟩
  | .hbm, ⟨36, _⟩ => ⟨S_, .i32⟩
  | .hbm, ⟨37, _⟩ => ⟨S_, .f32⟩
  | .hbm, ⟨38, _⟩ => ⟨S16, .f32⟩
  | .hbm, ⟨39, _⟩ => ⟨S1x16, .f32⟩
  | .hbm, ⟨40, _⟩ => ⟨S416x16, .f32⟩
  | .hbm, ⟨41, _⟩ => ⟨S13x16, .f32⟩
  | .hbm, ⟨42, _⟩ => ⟨S_, .i32⟩
  | .hbm, ⟨43, _⟩ => ⟨S_, .f32⟩
  | .hbm, ⟨44, _⟩ => ⟨S16x16, .f32⟩
  | .hbm, ⟨45, _⟩ => ⟨S416x16, .f32⟩
  | .hbm, ⟨46, _⟩ => ⟨S16x16, .f32⟩
  | .hbm, ⟨47, _⟩ => ⟨S128, .f32⟩
  | .hbm, ⟨48, _⟩ => ⟨S1x128, .f32⟩
  | .hbm, ⟨49, _⟩ => ⟨S1x256, .f32⟩
  | .hbm, ⟨50, _⟩ => ⟨S1x128, .f32⟩
  | .hbm, ⟨51, _⟩ => ⟨S1, .f32⟩
  | .hbm, ⟨52, _⟩ => ⟨S1x1, .f32⟩
  | .hbm, ⟨53, _⟩ => ⟨S16384x1, .f32⟩
  | .local .tc .vmem, ⟨0, _⟩ => ⟨S1024x416, .f32⟩
  | .local .tc .vmem, ⟨1, _⟩ => ⟨S1024x416, .f32⟩
  | .local .tc .vmem, ⟨2, _⟩ => ⟨S1024x16, .f32⟩
  | .local .tc .vmem, ⟨3, _⟩ => ⟨S1024x16, .f32⟩
  | .local .tc .vmem, ⟨4, _⟩ => ⟨S416x256, .f32⟩
  | .local .tc .vmem, ⟨5, _⟩ => ⟨S16x256, .f32⟩
  | .local .tc .vmem, ⟨6, _⟩ => ⟨S1x256, .f32⟩
  | .local .tc .vmem, ⟨7, _⟩ => ⟨S256x128, .f32⟩
  | .local .tc .vmem, ⟨8, _⟩ => ⟨S1x128, .f32⟩
  | .local .tc .vmem, ⟨9, _⟩ => ⟨S1x128, .f32⟩
  | .local .tc .vmem, ⟨10, _⟩ => ⟨S1x416, .f32⟩
  | .local .tc .vmem, ⟨11, _⟩ => ⟨S1x16, .f32⟩
  | .local .tc .vmem, ⟨12, _⟩ => ⟨S416x16, .f32⟩
  | .local .tc .vmem, ⟨13, _⟩ => ⟨S16x16, .f32⟩
  | .local .tc .vmem, ⟨14, _⟩ => ⟨S416x16, .f32⟩
  | .local .tc .vmem, ⟨15, _⟩ => ⟨S16x16, .f32⟩
  | .local .tc .vmem, ⟨16, _⟩ => ⟨S1x1, .f32⟩
  | .local .tc .vmem, ⟨17, _⟩ => ⟨S1024x1, .f32⟩
  | .local .tc .vmem, ⟨18, _⟩ => ⟨S1024x1, .f32⟩
  | .local .scVector .vmem, ⟨0, _⟩ => ⟨S13312, .i32⟩
  | .local .scVector .vmem, ⟨1, _⟩ => ⟨S2x1664x16, .f32⟩
  | _, _ => ⟨S16384x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_call0_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_call1_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_call2_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_call3_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v7_scv : Ref sig .scVector := ⟨.hbm, 20, rfl⟩
abbrev main_v6_scv : Ref sig .scVector := ⟨.hbm, 19, rfl⟩
abbrev main_v8_scv : Ref sig .scVector := ⟨.hbm, 21, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg8_0 : Ref sig .tc := ⟨.vmem, 10, rfl⟩
abbrev cc1_stg9_0 : Ref sig .tc := ⟨.vmem, 11, rfl⟩
abbrev cc1_stg10_0 : Ref sig .tc := ⟨.vmem, 12, rfl⟩
abbrev cc1_stg11_0 : Ref sig .tc := ⟨.vmem, 13, rfl⟩
abbrev cc1_stg12_0 : Ref sig .tc := ⟨.vmem, 14, rfl⟩
abbrev cc1_stg13_0 : Ref sig .tc := ⟨.vmem, 15, rfl⟩
abbrev cc1_stg14_0 : Ref sig .tc := ⟨.vmem, 16, rfl⟩
abbrev cc1_stg15_0 : Ref sig .tc := ⟨.vmem, 17, rfl⟩
abbrev cc1_stg15_1 : Ref sig .tc := ⟨.vmem, 18, rfl⟩
abbrev cc0_scratch0 : Ref sig .scVector := ⟨.vmem, 0, rfl⟩
abbrev cc0_scratch1 : Ref sig .scVector := ⟨.vmem, 1, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem12_0 : DmaSem sig := 18
abbrev cc1_sem13_0 : DmaSem sig := 19
abbrev cc1_sem14_0 : DmaSem sig := 20
abbrev cc1_sem15_0 : DmaSem sig := 21
abbrev cc1_sem15_1 : DmaSem sig := 22
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  ![v2.toNat]
def k0_off2 (i : grid0.Coords) (c0_i32_15 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  let v15 : BitVec 32 := Scalar.addi v2 c0_i32_15
  let c0_i32_19 : BitVec 32 := 0#32
  ![v15.toNat, 0]
abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x416 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S416x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x416 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S416x16 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S16x16 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S416x16 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S16x16 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x1 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S1024x1 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x26 : Shape := ⟨2, ![16384, 26]⟩
abbrev S16384x13 : Shape := ⟨2, ![16384, 13]⟩
abbrev S26x100000x16 : Shape := ⟨3, ![26, 100000, 16]⟩
abbrev S429x1 : Shape := ⟨2, ![429, 1]⟩
abbrev S1 : Shape := ⟨1, ![1]⟩
abbrev S429x16 : Shape := ⟨2, ![429, 16]⟩
abbrev S429x256 : Shape := ⟨2, ![429, 256]⟩
abbrev S256 : Shape := ⟨1, ![256]⟩
abbrev S256x128 : Shape := ⟨2, ![256, 128]⟩
abbrev S128 : Shape := ⟨1, ![128]⟩
abbrev S128x1 : Shape := ⟨2, ![128, 1]⟩
abbrev S_ : Shape := ⟨0, ![]⟩
abbrev S26x16384 : Shape := ⟨2, ![26, 16384]⟩
abbrev S26x16384x1 : Shape := ⟨3, ![26, 16384, 1]⟩
abbrev S1x1x1 : Shape := ⟨3, ![1, 1, 1]⟩
abbrev S26x16384x16 : Shape := ⟨3, ![26, 16384, 16]⟩
abbrev S16384x26x16 : Shape := ⟨3, ![16384, 26, 16]⟩
abbrev S16384x416 : Shape := ⟨2, ![16384, 416]⟩
abbrev S16384x429 : Shape := ⟨2, ![16384, 429]⟩
abbrev S16384x1 : Shape := ⟨2, ![16384, 1]⟩
abbrev S1x1 : Shape := ⟨2, ![1, 1]⟩
abbrev S16384x16 : Shape := ⟨2, ![16384, 16]⟩
abbrev S16384 : Shape := ⟨1, ![16384]⟩
abbrev S16384x256 : Shape := ⟨2, ![16384, 256]⟩
abbrev S1x256 : Shape := ⟨2, ![1, 256]⟩
abbrev S16384x128 : Shape := ⟨2, ![16384, 128]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S16384x26, .i32⟩
  | .hbm, ⟨1, _⟩ => ⟨S16384x13, .f32⟩
  | .hbm, ⟨2, _⟩ => ⟨S26x100000x16, .f32⟩
  | .hbm, ⟨3, _⟩ => ⟨S429x1, .f32⟩
  | .hbm, ⟨4, _⟩ => ⟨S1, .f32⟩
  | .hbm, ⟨5, _⟩ => ⟨S429x16, .f32⟩
  | .hbm, ⟨6, _⟩ => ⟨S429x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S_, .i32⟩
  | .hbm, ⟨13, _⟩ => ⟨S16384x26, .i32⟩
  | .hbm, ⟨14, _⟩ => ⟨S16384x26, .i1⟩
  | .hbm, ⟨15, _⟩ => ⟨S_, .i32⟩
  | .hbm, ⟨16, _⟩ => ⟨S16384x26, .i32⟩
  | .hbm, ⟨17, _⟩ => ⟨S16384x26, .i32⟩
  | .hbm, ⟨18, _⟩ => ⟨S16384x26, .i32⟩
  | .hbm, ⟨19, _⟩ => ⟨S26x16384, .i32⟩
  | .hbm, ⟨20, _⟩ => ⟨S26x16384x1, .i32⟩
  | .hbm, ⟨21, _⟩ => ⟨S1, .i32⟩
  | .hbm, ⟨22, _⟩ => ⟨S_, .i32⟩
  | .hbm, ⟨23, _⟩ => ⟨S26x16384x1, .i32⟩
  | .hbm, ⟨24, _⟩ => ⟨S26x16384x1, .i1⟩
  | .hbm, ⟨25, _⟩ => ⟨S1x1x1, .i32⟩
  | .hbm, ⟨26, _⟩ => ⟨S26x16384x1, .i32⟩
  | .hbm, ⟨27, _⟩ => ⟨S26x16384x1, .i1⟩
  | .hbm, ⟨28, _⟩ => ⟨S26x16384x1, .i1⟩
  | .hbm, ⟨29, _⟩ => ⟨S_, .i1⟩
  | .hbm, ⟨30, _⟩ => ⟨S26x16384, .i1⟩
  | .hbm, ⟨31, _⟩ => ⟨S26x16384x16, .f32⟩
  | .hbm, ⟨32, _⟩ => ⟨S26x16384x16, .i1⟩
  | .hbm, ⟨33, _⟩ => ⟨S_, .f32⟩
  | .hbm, ⟨34, _⟩ => ⟨S26x16384x16, .f32⟩
  | .hbm, ⟨35, _⟩ => ⟨S26x16384x16, .f32⟩
  | .hbm, ⟨36, _⟩ => ⟨S16384x26x16, .f32⟩
  | .hbm, ⟨37, _⟩ => ⟨S16384x416, .f32⟩
  | .hbm, ⟨38, _⟩ => ⟨S16384x429, .f32⟩
  | .hbm, ⟨39, _⟩ => ⟨S16384x1, .f32⟩
  | .hbm, ⟨40, _⟩ => ⟨S1x1, .f32⟩
  | .hbm, ⟨41, _⟩ => ⟨S16384x1, .f32⟩
  | .hbm, ⟨42, _⟩ => ⟨S16384x1, .f32⟩
  | .hbm, ⟨43, _⟩ => ⟨S16384x16, .f32⟩
  | .hbm, ⟨44, _⟩ => ⟨S16384x16, .f32⟩
  | .hbm, ⟨45, _⟩ => ⟨S16384x429, .f32⟩
  | .hbm, ⟨46, _⟩ => ⟨S429x16, .f32⟩
  | .hbm, ⟨47, _⟩ => ⟨S16384x16, .f32⟩
  | .hbm, ⟨48, _⟩ => ⟨S16384x16, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x256, .f32⟩
  | .hbm, ⟨57, _⟩ => ⟨S1x256, .f32⟩
  | .hbm, ⟨58, _⟩ => ⟨S16384x256, .f32⟩
  | .hbm, ⟨59, _⟩ => ⟨S16384x256, .f32⟩
  | .hbm, ⟨60, _⟩ => ⟨S_, .f32⟩
  | .hbm, ⟨61, _⟩ => ⟨S16384x256, .f32⟩
  | .hbm, ⟨62, _⟩ => ⟨S16384x256, .f32⟩
  | .hbm, ⟨63, _⟩ => ⟨S16384x128, .f32⟩
  | .hbm, ⟨64, _⟩ => ⟨S1x128, .f32⟩
  | .hbm, ⟨65, _⟩ => ⟨S16384x128, .f32⟩
  | .hbm, ⟨66, _⟩ => ⟨S16384x128, .f32⟩
  | .hbm, ⟨67, _⟩ => ⟨S_, .f32⟩
  | .hbm, ⟨68, _⟩ => ⟨S16384x128, .f32⟩
  | .hbm, ⟨69, _⟩ => ⟨S16384x128, .f32⟩
  | .hbm, ⟨70, _⟩ => ⟨S16384x1, .f32⟩
  | .hbm, ⟨71, _⟩ => ⟨S1x1, .f32⟩
  | .hbm, ⟨72, _⟩ => ⟨S16384x1, .f32⟩
  | .hbm, ⟨73, _⟩ => ⟨S16384x1, .f32⟩
  | .hbm, ⟨74, _⟩ => ⟨S16384x1, .f32⟩
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_c_1 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_c_3 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_cst : Ref sig .tc := ⟨.hbm, 33, rfl⟩
abbrev main_call0_v16 : Ref sig .tc := ⟨.hbm, 34, rfl⟩
abbrev main_v0 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_cst : Ref sig .tc := ⟨.hbm, 49, rfl⟩
abbrev main_v14 : Ref sig .tc := ⟨.hbm, 50, rfl⟩
abbrev main_v15 : Ref sig .tc := ⟨.hbm, 51, rfl⟩
abbrev main_cst_0 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_call1_cst : Ref sig .tc := ⟨.hbm, 60, rfl⟩
abbrev main_call1_v0 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_call2_cst : Ref sig .tc := ⟨.hbm, 67, rfl⟩
abbrev main_call2_v0 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩

abbrev nD : Nat := 1
abbrev τ : Topo := Topo.v7x

variable {F : FTy → Type} [FloatOps F]
-- ==== Proof.Setup.lean ====
/-
  The program as the launch theorem sees it: the SparseCore configuration, the resource algebra (the launch's handshakes, the pipeline's
  staging cells, the transfers' counters), the three arrays the SparseCore call names, and what its handshakes carry.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

set_option maxRecDepth 16384

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The pipeline's rounds. -/
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's component: the left one of the pair on the right. -/
def EP : Emb UP (MT nD τ sig (HIx 1) (Elt F) ℕ UU ℕ) := (Emb.inl : Emb UP (UP × Counters)).trans embR

instance EP_landsIn : (EP (F := F)).LandsIn (upEmb : UEmb _ 𝕄) := by unfold EP embR; infer_instance

/-! ## The three arrays of the call -/

abbrev iLoc (d : Dev nD) : Loc nD τ sig := (SparseCore.T d).loc main_v6
abbrev xLoc (d : Dev nD) : Loc nD τ sig := (SparseCore.T d).loc main_v7
abbrev oLoc (d : Dev nD) : Loc nD τ sig := (SparseCore.T d).loc main_v8

local notation "iV" => (Memref.whole Cert.KernelIdeal.main_v6_scv : Memref Cert.KernelIdeal.sig Kind.scVector Space.hbm Cert.KernelIdeal.S425984 EltTy.i32)
local notation "xV" => (Memref.whole Cert.KernelIdeal.main_v7_scv : Memref Cert.KernelIdeal.sig Kind.scVector Space.hbm Cert.KernelIdeal.S2600000x16 EltTy.f32)
local notation "oV" => (Memref.whole Cert.KernelIdeal.main_v8_scv : Memref Cert.KernelIdeal.sig Kind.scVector Space.hbm Cert.KernelIdeal.S425984x16 EltTy.f32)

/-- A task: a SparseCore and a tile. -/
abbrev Task : Type := Fin 2 × Fin 16

/-- The rows of chunk `r` of the task at `w`: 1664 of them, from `13312 · (2 s + c) + 1664 r` on. -/
theorem chunk_inb (w : Task) (r : Fin 8) : ∀ a, (![26624 * w.2.val + 13312 * w.1.val + 1664 * r.val, 0] : Fin 2 → ℕ) a + S1664x16.size a ≤ S425984x16.size a := by
  intro a
  have h1 := w.1.isLt; have h2 := w.2.isLt; have h3 := r.isLt
  match a with
  | 0 => show 26624 * w.2.val + 13312 * w.1.val + 1664 * r.val + 1664 ≤ 425984; omega
  | 1 => show 0 + 16 ≤ 16; omega
abbrev chunk (w : Task) (r : Fin 8) : Rect S425984x16 :=
  Rect.unit (s := S425984x16) ![26624 * w.2.val + 13312 * w.1.val + 1664 * r.val, 0] S1664x16.size (chunk_inb w r)
abbrev chunkSet (w : Task) (r : Fin 8) : Finset S425984x16.Idx := (chunk w r).set

/-- Which leaf of the full share a task reads by. -/
def leafOf (w : Task) : Fin (2 ^ 5) := ⟨16 * w.1.val + w.2.val, by have := w.1.isLt; have := w.2.isLt; show _ < 32; omega⟩
abbrev wq (w : Task) : PosShare TreeShare := leaf 5 fullShare (leafOf w)

/-! ## What the handshakes carry -/

/-- The contents the call finds: the row numbers, the table, the output array's old contents. -/
structure Ins (F : FTy → Type) where
  I : (d : Dev nD) → Buf (Elt F) (iLoc d)
  X : (d : Dev nD) → Buf (Elt F) (xLoc d)
  O : (d : Dev nD) → Buf (Elt F) (oLoc d)

variable (n : Ins F)

/-- Every row number is a row of the table. -/
def InRange : Prop := ∀ (d : Dev nD) (j : S425984.Idx), (show BitVec 32 from n.I d j).toNat < 2600000

/-- The row of the table that a word names (its last row where the word is out of range, which `InRange` excludes). -/
def rowOf (v : BitVec 32) : Fin 2600000 := ⟨min v.toNat 2599999, by omega⟩

/-- An index into the table, by its row and its lane. -/
def xIx (r : Fin 2600000) (k : Fin 16) : S2600000x16.Idx := fun | 0 => r | 1 => k
/-- An index into the list of row numbers. -/
def iIx (r : Fin 425984) : S425984.Idx := fun | 0 => r

/-- The looked-up rows: row `r` is the table's row that the `r`-th number names. -/
def rows (d : Dev nD) : Buf (Elt F) (oLoc d) := fun j => n.X d (xIx (rowOf (n.I d (iIx (j 0)))) (j 1))

abbrev iSh (d : Dev nD) (w : Task) : sProp 𝕄 := iLoc d ↦{wq w} n.I d
abbrev xSh (d : Dev nD) (w : Task) : sProp 𝕄 := xLoc d ↦{wq w} n.X d
abbrev oPc (d : Dev nD) (w : Task) (r : Fin 8) (f : Buf (Elt F) (oLoc d)) : sProp 𝕄 := oLoc d ↦[chunkSet w r]{fullShare} f

/-- What a task is handed, -/
abbrev goP (d : Dev nD) (w : Task) : sProp 𝕄 := iprop(iSh n d w ∗ xSh n d w ∗ bigSep Finset.univ fun r : Fin 8 => oPc d w r (n.O d))
/-- and what it brings back: its chunks hold the looked-up rows. -/
abbrev tdP (d : Dev nD) (w : Task) : sProp 𝕄 := iprop(iSh n d w ∗ xSh n d w ∗ bigSep Finset.univ fun r : Fin 8 => oPc d w r (rows n d))

def P : (K (F := F)).Pay (nD := nD) (Val := Elt F) (Name := ℕ) (U := UU) where
  st := fun q d c => match q with | 0 => bigSep Finset.univ fun i : Fin 16 => goP n d (Fin.cast nCore_zero c, i)
  dn := fun q d c => match q with | 0 => bigSep Finset.univ fun i : Fin 16 => tdP n d (Fin.cast nCore_zero c, i)
  go := fun q d c i => match q with | 0 => goP n d (Fin.cast nCore_zero c, Fin.cast nSub_zero i)
  td := fun q d c i => match q with | 0 => tdP n d (Fin.cast nCore_zero c, Fin.cast nSub_zero i)
  x := fun _ _ => iprop(emp)

instance P_storable : (P n).IsStorable where
  st q d c := match q with
    | 0 => (inferInstance : BI.Storable (upEmb : UEmb _ 𝕄) (bigSep Finset.univ fun i : Fin 16 => goP n d (Fin.cast nCore_zero c, i)))
  dn q d c := match q with
    | 0 => (inferInstance : BI.Storable (upEmb : UEmb _ 𝕄) (bigSep Finset.univ fun i : Fin 16 => tdP n d (Fin.cast nCore_zero c, i)))
  go q d c i := match q with
    | 0 => (inferInstance : BI.Storable (upEmb : UEmb _ 𝕄) (goP n d (Fin.cast nCore_zero c, Fin.cast nSub_zero i)))
  td q d c i := match q with
    | 0 => (inferInstance : BI.Storable (upEmb : UEmb _ 𝕄) (tdP n d (Fin.cast nCore_zero c, Fin.cast nSub_zero i)))

theorem vecSplit : (K (F := F)).VecSplit' (P n) 0 := by
  intro d c
  show (bigSep Finset.univ fun i : Fin 16 => goP n d (Fin.cast nCore_zero c, i)) ⊢ |={Set.univ}=> iprop(
      (bigSep Finset.univ fun i : Fin 16 => goP n d (Fin.cast nCore_zero c, i))
      ∗ ((bigSep Finset.univ fun i : Fin 16 => tdP n d (Fin.cast nCore_zero c, i))
          -∗ bigSep Finset.univ fun i : Fin 16 => tdP n d (Fin.cast nCore_zero c, i)))
  iintro H; imodintro
  isplitl [H]; · iexact H
  iintro H; iexact H

end Cert.Proof.Run

end
-- ==== Proof.Views.lean ====
/-
  The arrays and buffers as the tile at `L` addresses them, and what its copies and its looked-up rows leave in them.
-/
module

public import proofs.«01_k».proof.Proof.Setup

@[expose] public section

set_option maxRecDepth 16384

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v6_scv : Memref Cert.KernelIdeal.sig Kind.scVector Space.hbm Cert.KernelIdeal.S425984 EltTy.i32)
local notation "xV" => (Memref.whole Cert.KernelIdeal.main_v7_scv : Memref Cert.KernelIdeal.sig Kind.scVector Space.hbm Cert.KernelIdeal.S2600000x16 EltTy.f32)
local notation "oV" => (Memref.whole Cert.KernelIdeal.main_v8_scv : Memref Cert.KernelIdeal.sig Kind.scVector Space.hbm Cert.KernelIdeal.S425984x16 EltTy.f32)
local notation "lV" => (Memref.whole Cert.KernelIdeal.cc0_scratch0 : Memref Cert.KernelIdeal.sig Kind.scVector Space.vmem Cert.KernelIdeal.S13312 EltTy.i32)
local notation "rV" => (Memref.whole Cert.KernelIdeal.cc0_scratch1 : Memref Cert.KernelIdeal.sig Kind.scVector Space.vmem Cert.KernelIdeal.S2x1664x16 EltTy.f32)

variable (n : Ins F) (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)
theorem bound_zero : grid0.bound 0 = 2 := rfl
theorem bound_one : grid0.bound 1 = 16 := rfl
abbrev wL (L : grid0.Coords) : Task := (Fin.cast bound_zero (L 0), Fin.cast bound_one (L 1))

/-- The task's row numbers, as it addresses them. -/
abbrev iPc (L : grid0.Coords) : Memref sig .scVector .hbm S13312 .i32 := (iV).slice (Rect.unit (s := S425984) (k0_off1 L) S13312.size (k0_off1_inb L)) (fun _ => rfl)
/-- The two halves of the row buffer. -/
abbrev rH0 : Memref sig .scVector .vmem S1664x16 .f32 :=
  ((rV).slice (Rect.unit (s := S2x1664x16) ![0, 0, 0] S1x1664x16.size inb_S2x1664x16_S1x1664x16_0_0_0) (fun _ => rfl)).squeeze S1664x16 squeezes_S1x1664x16_S1664x16
abbrev rH1 : Memref sig .scVector .vmem S1664x16 .f32 :=
  ((rV).slice (Rect.unit (s := S2x1664x16) ![1, 0, 0] S1x1664x16.size inb_S2x1664x16_S1x1664x16_1_0_0) (fun _ => rfl)).squeeze S1664x16 squeezes_S1x1664x16_S1664x16
/-- Chunk `r` of the output, as the task addresses it (`v` is `1664 r`). -/
abbrev oC (L : grid0.Coords) (v : BitVec 32) (h : ∀ a, (k0_off2 L v) a + S1664x16.size a ≤ S425984x16.size a) : Memref sig .scVector .hbm S1664x16 .f32 :=
  (oV).slice (Rect.unit (s := S425984x16) (k0_off2 L v) S1664x16.size h) (fun _ => rfl)

/-- An index into the tile's list. -/
def lIx (r : Fin 13312) : S13312.Idx := fun | 0 => r

/-- The list's contents after the copy: word `j` is the task's `j`-th row number. -/
def listIs (fl : Buf (Elt F) ((lV).view.loc (VT d L))) : Prop := ∀ j : S13312.Idx, fl j = n.I d ((iPc L).view.emb j)

theorem list_word (j : S13312.Idx) : ReadAs.same.apply ((iPc L).view.read (Elt F) (n.I d)) j = n.I d ((iPc L).view.emb j) := by
  show (iPc L).view.read (Elt F) (n.I d) j = _
  rw [View.read_apply]
  exact cast_eq _ _

theorem listIs_of_copy (pay : (Rect.whole cc0_scratch0.ty.shape).shape.Idx → Elt F cc0_scratch0.ty.elt)
    (hpay : pay = ReadAs.same.apply ((iPc L).view.read (Elt F) (n.I d)))
    (g0 : Buf (Elt F) ((lV).view.loc (VT d L))) :
    listIs n d L ((lV).view.writes (Elt F) g0 [⟨Rect.whole cc0_scratch0.ty.shape, pay⟩]) := by
  intro j
  have e := congrFun (View.read_writes_whole (Val := Elt F) (lV).view g0 pay) j
  have e3 : (lV).view.read (Elt F) ((lV).view.writes (Elt F) g0 [⟨Rect.whole cc0_scratch0.ty.shape, pay⟩]) j
      = (lV).view.writes (Elt F) g0 [⟨Rect.whole cc0_scratch0.ty.shape, pay⟩] j := by
    rw [View.read_apply]; exact cast_eq _ _
  rw [← e3, e, hpay]
  exact list_word n d L j

/-- A word of the list through one of its windows. -/
theorem list_window (fl : Buf (Elt F) ((lV).view.loc (VT d L))) (off : Fin 1 → ℕ) (h : ∀ a, off a + S1664.size a ≤ S13312.size a)
    (x : S1664.Idx) :
    View.read (Elt F) ((lV).slice (Rect.unit (s := S13312) off S1664.size h) (fun _ => rfl)).view fl x
      = fl ((Rect.unit (s := S13312) off S1664.size h).emb x) := by
  rw [View.read_apply]; exact cast_eq _ _

theorem listIs_lt (hn : InRange n) (fl : Buf (Elt F) ((lV).view.loc (VT d L))) (hfl : listIs n d L fl)
    (off : Fin 1 → ℕ) (h : ∀ a, off a + S1664.size a ≤ S13312.size a) :
    ∀ x, (View.read (Elt F) ((lV).slice (Rect.unit (s := S13312) off S1664.size h) (fun _ => rfl)).view fl x).toNat < 2600000 := by
  intro x
  rw [list_window]
  exact (congrArg BitVec.toNat (hfl _)).trans_lt (hn d _)

/-- A whole write is read back, whatever was written before it. -/
theorem read_last {κ : Kind} {sp : Space} {s : Shape} {e : EltTy} (v : View sig κ sp s e) (f : v.ty.Contents (Elt F)) (w : s.Idx → Elt F e)
    (l : List (View.Piece (Elt F) s e)) : v.read (Elt F) (v.writes (Elt F) f (⟨Rect.whole s, w⟩ :: l)) = w := by
  funext y
  have h := View.read_writes_cons_emb v f (Rect.whole s) w l y
  rwa [Rect.emb_whole_apply] at h

theorem vec_symm_val (k : Fin S1664.numel) : (S1664.rowMajor.symm k 0).val = k.val := by
  have h := Shape.rowMajor_val_one (d := ![1664]) (S1664.rowMajor.symm k)
  rw [← h]
  exact congrArg Fin.val (Equiv.apply_symm_apply _ _)

/-- The rows a tile looks up by the words of its list from `o` on. -/
theorem gathered (fl : Buf (Elt F) ((lV).view.loc (VT d L))) (hlt : ∀ j : S13312.Idx, (show BitVec 32 from fl j).toNat < 2600000)
    (r : Fin 8) (o : ℕ) (hor : o = 1664 * r.val) (h : ∀ a, (![o] : Fin 1 → ℕ) a + S1664.size a ≤ S13312.size a)
    (hg : S2600000x16.Gathers 0 S1664x16) (hx : ∀ a, (![0, 0] : Fin 2 → ℕ) a + S2600000x16.size a ≤ S2600000x16.size a)
    (hnn : S1664.numel = S1664x16.size hg.axis')
    (hin : ∀ x, (View.read (Elt F) ((lV).slice (Rect.unit (s := S13312) ![o] S1664.size h) (fun _ => rfl)).view fl x).toNat < S2600000x16.size hg.axis)
    (y : S1664x16.Idx) :
    SparseCore.gatherPayload hg (View.read (Elt F) ((xV).slice (Rect.unit (s := S2600000x16) ![0, 0] S2600000x16.size hx) (fun _ => rfl)).view (n.X d))
        (SparseCore.rows (View.read (Elt F) ((lV).slice (Rect.unit (s := S13312) ![o] S1664.size h) (fun _ => rfl)).view fl) hnn hin) y
      = n.X d (xIx (rowOf (fl (lIx ⟨1664 * r.val + (y 0).val, by
        have h0 : (y 0).val < 1664 := (y 0).isLt; have := r.isLt; omega⟩))) (y 1)) := by
  have h0 : (y 0).val < 1664 := (y 0).isLt
  have hr := r.isLt
  subst hor
  unfold SparseCore.gatherPayload
  rw [View.read_apply]
  refine (cast_eq _ _).trans (congrArg (n.X d) ?_)
  funext a
  apply Fin.ext
  match a with
  | 0 =>
    show 0 + 1 * (hg.idx _ y hg.axis).val = _
    rw [Shape.Gathers.idx_axis, Nat.zero_add, Nat.one_mul]
    unfold SparseCore.rows
    show (View.read (Elt F) ((lV).slice (Rect.unit (s := S13312) ![1664 * r.val] S1664.size h) (fun _ => rfl)).view fl _).toNat = _
    rw [list_window]
    have e : (Rect.unit (s := S13312) ![1664 * r.val] S1664.size h).emb (S1664.rowMajor.symm ((y hg.axis').cast hnn.symm)) = lIx ⟨1664 * r.val + (y 0).val, by omega⟩ := by
      funext b
      match b with
      | 0 =>
        apply Fin.ext
        show 1664 * r.val + 1 * (S1664.rowMajor.symm ((y hg.axis').cast hnn.symm) 0).val = 1664 * r.val + (y 0).val
        rw [vec_symm_val, Nat.one_mul]
        rfl
    refine (congrArg (fun z => BitVec.toNat (fl z)) e).trans ?_
    exact (Nat.min_eq_left (Nat.le_of_lt_succ (hlt _))).symm
  | 1 =>
    show 0 + 1 * (hg.idx _ y 1).val = _
    rw [Shape.Gathers.idx_of_ne _ _ _ _ (by decide), Nat.zero_add, Nat.one_mul]
    rfl

theorem chunk_set (r : Fin 8) (off : Fin 2 → ℕ) (hoff : off = ![26624 * (L 1).val + 13312 * (L 0).val + 1664 * r.val, 0])
    (h : ∀ a, off a + S1664x16.size a ≤ S425984x16.size a) :
    ((oV).slice (Rect.unit (s := S425984x16) off S1664x16.size h) (fun _ => rfl)).view.set = chunkSet (wL L) r := by
  subst hoff
  show ((View.whole (main_v8_scv : Ref sig .scVector)).slice _).set = _
  rw [View.set_slice]; exact Finset.map_refl

theorem list_emb (k : Fin 13312) : (iPc L).view.emb (lIx k) = iIx ⟨26624 * (L 1).val + 13312 * (L 0).val + k.val, by
    have h0 : (L 0).val < 2 := (L 0).isLt; have h1 : (L 1).val < 16 := (L 1).isLt; have := k.isLt; omega⟩ := by
  funext a
  match a with
  | 0 =>
    apply Fin.ext
    show k0_off1 L 0 + 1 * k.val = _
    rw [k0_off1_eq, Nat.one_mul]
    rfl

/-- A chunk as the task addresses it is the chunk. -/
theorem chunk_start (r : Fin 8) (off : Fin 2 → ℕ) (hoff : off = ![26624 * (L 1).val + 13312 * (L 0).val + 1664 * r.val, 0])
    (h : ∀ a, off a + S1664x16.size a ≤ S425984x16.size a) (f : Buf (Elt F) (oLoc d)) :
    (((oV).slice (Rect.unit (s := S425984x16) off S1664x16.size h) (fun _ => rfl)).view.loc (VT d L)
        ↦[((oV).slice (Rect.unit (s := S425984x16) off S1664x16.size h) (fun _ => rfl)).view.set]{fullShare} f : sProp 𝕄)
      = oPc d (wL L) r f := by
  rw [chunk_set L r off hoff h]

/-- What one copy into a chunk credits its semaphore. -/
theorem chunk_amount (v : BitVec 32) (h : ∀ a, (k0_off2 L v) a + S1664x16.size a ≤ S425984x16.size a) (s : DmaSem sig) :
    (oC L v h).view.amount (SemLoc.dma s) = 851968 :=
  View.dmaCredit_closed (oC L v h).view S1664x16 rfl (main_v8_scv : Ref sig .scVector).idx rfl 851968 rfl

/-- A chunk written with looked-up rows holds the rows of the task's numbers. -/
theorem chunk_done (fl : Buf (Elt F) ((lV).view.loc (VT d L))) (hfl : listIs n d L fl) (r : Fin 8)
    (off : Fin 2 → ℕ) (hoff : off = ![26624 * (L 1).val + 13312 * (L 0).val + 1664 * r.val, 0]) (h : ∀ a, off a + S1664x16.size a ≤ S425984x16.size a)
    (f : Buf (Elt F) ((oV).view.loc (VT d L)))
    (hf : ∀ y : S1664x16.Idx, ((oV).slice (Rect.unit (s := S425984x16) off S1664x16.size h) (fun _ => rfl)).view.read (Elt F) f y = n.X d (xIx (rowOf (fl (lIx ⟨1664 * r.val + (y 0).val, by
      have h0 : (y 0).val < 1664 := (y 0).isLt; have := r.isLt; omega⟩))) (y 1))) :
    (((oV).slice (Rect.unit (s := S425984x16) off S1664x16.size h) (fun _ => rfl)).view.loc (VT d L)
        ↦[((oV).slice (Rect.unit (s := S425984x16) off S1664x16.size h) (fun _ => rfl)).view.set]{fullShare}
        f : sProp 𝕄)
      = oPc d (wL L) r (rows n d) := by
  rw [chunk_start d L r off hoff h]
  refine pointsTo_congr fun i hi => ?_
  subst hoff
  have hi' := hi
  rw [← chunk_set L r _ rfl h] at hi'
  obtain ⟨y, -, rfl⟩ := Finset.mem_map.mp hi'
  have e1 := hf y
  rw [View.read_apply] at e1
  refine ((cast_eq _ _).symm.trans e1).trans ?_
  have h0 : (y 0).val < 1664 := (y 0).isLt
  have hr := r.isLt
  rw [hfl, list_emb]
  refine congrArg (n.X d) ?_
  funext a
  match a with
  | 0 =>
    refine congrArg (fun z => rowOf (n.I d z)) ?_
    funext b
    match b with
    | 0 =>
      apply Fin.ext
      show 26624 * (L 1).val + 13312 * (L 0).val + (1664 * r.val + (y 0).val) = 26624 * (L 1).val + 13312 * (L 0).val + 1664 * r.val + 1 * (y 0).val
      omega
  | 1 =>
    apply Fin.ext
    show (y 1).val = 0 + 1 * (y 1).val
    omega

/-- A chunk written by a copy waited for by itself. -/
theorem chunk_flown (fl : Buf (Elt F) ((lV).view.loc (VT d L))) (hfl : listIs n d L fl) (r : Fin 8)
    (off : Fin 2 → ℕ) (hoff : off = ![26624 * (L 1).val + 13312 * (L 0).val + 1664 * r.val, 0]) (h : ∀ a, off a + S1664x16.size a ≤ S425984x16.size a)
    (pay : S1664x16.Idx → Elt F .f32)
    (hpay : ∀ y : S1664x16.Idx, pay y = n.X d (xIx (rowOf (fl (lIx ⟨1664 * r.val + (y 0).val, by
      have h0 : (y 0).val < 1664 := (y 0).isLt; have := r.isLt; omega⟩))) (y 1))) :
    (((oV).slice (Rect.unit (s := S425984x16) off S1664x16.size h) (fun _ => rfl)).view.loc (VT d L)
        ↦[((oV).slice (Rect.unit (s := S425984x16) off S1664x16.size h) (fun _ => rfl)).view.set]{fullShare}
        ((oV).slice (Rect.unit (s := S425984x16) off S1664x16.size h) (fun _ => rfl)).view.writes (Elt F) (n.O d) [⟨Rect.whole S1664x16, pay⟩] : sProp 𝕄)
      = oPc d (wL L) r (rows n d) :=
  chunk_done n d L fl hfl r off hoff h _ fun y => (congrFun (read_last _ _ _ _) y).trans (hpay y)

/-- A chunk written by a copy waited for together with another. -/
theorem chunk_batched (fl : Buf (Elt F) ((lV).view.loc (VT d L))) (hfl : listIs n d L fl) (r : Fin 8)
    (off : Fin 2 → ℕ) (hoff : off = ![26624 * (L 1).val + 13312 * (L 0).val + 1664 * r.val, 0]) (h : ∀ a, off a + S1664x16.size a ≤ S425984x16.size a)
    (pay : S1664x16.Idx → Elt F .f32)
    (hpay : ∀ y : S1664x16.Idx, pay y = n.X d (xIx (rowOf (fl (lIx ⟨1664 * r.val + (y 0).val, by
      have h0 : (y 0).val < 1664 := (y 0).isLt; have := r.isLt; omega⟩))) (y 1))) :
    (((oV).slice (Rect.unit (s := S425984x16) off S1664x16.size h) (fun _ => rfl)).view.loc (VT d L)
        ↦[((oV).slice (Rect.unit (s := S425984x16) off S1664x16.size h) (fun _ => rfl)).view.set]{fullShare}
        ((oV).slice (Rect.unit (s := S425984x16) off S1664x16.size h) (fun _ => rfl)).view.write (Elt F) (n.O d) pay Finset.univ : sProp 𝕄)
      = oPc d (wL L) r (rows n d) :=
  chunk_done n d L fl hfl r off hoff h _ fun y => (congrFun (View.read_write_univ _ _) y).trans (hpay y)

end Cert.Proof.Run

end
-- ==== Proof.Tile.lean ====
/-
  One task of the SparseCore call: the tile at `L` copies its 13312 row numbers into its index buffer, then looks up 1664 rows of the table at
  a time, by turns into the two halves of its row buffer, and copies each half out to its chunk of the output.
-/
module

public import proofs.«01_k».proof.Proof.Views

@[expose] public section

set_option maxRecDepth 16384

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v6_scv : Memref Cert.KernelIdeal.sig Kind.scVector Space.hbm Cert.KernelIdeal.S425984 EltTy.i32)
local notation "xV" => (Memref.whole Cert.KernelIdeal.main_v7_scv : Memref Cert.KernelIdeal.sig Kind.scVector Space.hbm Cert.KernelIdeal.S2600000x16 EltTy.f32)
local notation "oV" => (Memref.whole Cert.KernelIdeal.main_v8_scv : Memref Cert.KernelIdeal.sig Kind.scVector Space.hbm Cert.KernelIdeal.S425984x16 EltTy.f32)
local notation "lV" => (Memref.whole Cert.KernelIdeal.cc0_scratch0 : Memref Cert.KernelIdeal.sig Kind.scVector Space.vmem Cert.KernelIdeal.S13312 EltTy.i32)
local notation "rV" => (Memref.whole Cert.KernelIdeal.cc0_scratch1 : Memref Cert.KernelIdeal.sig Kind.scVector Space.vmem Cert.KernelIdeal.S2x1664x16 EltTy.f32)

variable (n : Ins F) (d : Dev nD) (L : grid0.Coords)
variable [FloatOps F]

/-- What a task ends with: its shares back, its chunks holding the rows its numbers name, its buffers and semaphores. -/
abbrev tileEnd (O : CellTallies nD τ sig (HIx 1)) (W : Waits sig (HIx 1)) (q1 q2 : PosShare TreeShare) : sProp 𝕄 :=
  iprop(((iPc L).view.loc (VT d L) ↦[(iPc L).view.set]{wq (wL L)} n.I d)
            ∗ ((xV).view.loc (VT d L) ↦{q1} n.X d)
            ∗ ((xV).view.loc (VT d L) ↦{q2} n.X d)
            ∗ oPc d (wL L) 0 (rows n d)
            ∗ oPc d (wL L) 1 (rows n d)
            ∗ oPc d (wL L) 2 (rows n d)
            ∗ oPc d (wL L) 3 (rows n d)
            ∗ oPc d (wL L) 4 (rows n d)
            ∗ oPc d (wL L) 5 (rows n d)
            ∗ oPc d (wL L) 6 (rows n d)
            ∗ oPc d (wL L) 7 (rows n d)
            ∗ (∃ f, (lV).view.loc (VT d L) ↦[(lV).view.set]{fullShare} f)
            ∗ (∃ f, (rH0).view.loc (VT d L) ↦[(rH0).view.set]{fullShare} f)
            ∗ (∃ f, (rH1).view.loc (VT d L) ↦[(rH1).view.set]{fullShare} f)
            ∗ semVal (VT d L, SemLoc.dma cc0_scoped0.sem) 0 ∗ semVal (VT d L, SemLoc.dma cc0_scratch2.sem) 0
            ∗ semVal (VT d L, SemLoc.dma cc0_scratch3.sem) 0 ∗ semVal (VT d L, SemLoc.dma cc0_scratch4.sem) 0
            ∗ ∃ W', ⌜∀ p ∈ W', p ∈ W ∨ p.2 = none⌝ ∗ owes (VT d L) O W')

set_option maxHeartbeats 4000000 in
theorem tile_run (hn : InRange n) (O : CellTallies nD τ sig (HIx 1)) (W : Waits sig (HIx 1))
    (g0 : Buf (Elt F) ((lV).view.loc (VT d L))) (t0 : Buf (Elt F) ((rV).view.loc (VT d L)))
    (q1 q2 : PosShare TreeShare) :
    (iprop(Transfers.MayWaits (VT d L) (default : HIx 1) O
        ∗ ((iPc L).view.loc (VT d L) ↦[(iPc L).view.set]{wq (wL L)} n.I d)
        ∗ ((xV).view.loc (VT d L) ↦{q1} n.X d)
        ∗ ((xV).view.loc (VT d L) ↦{q2} n.X d)
        ∗ ((oC L 0#32 (k0_off2_inb L 0)).view.loc (VT d L) ↦[(oC L 0#32 (k0_off2_inb L 0)).view.set]{fullShare} n.O d)
        ∗ ((oC L 1664#32 (k0_off2_inb L 1)).view.loc (VT d L) ↦[(oC L 1664#32 (k0_off2_inb L 1)).view.set]{fullShare} n.O d)
        ∗ ((oC L 3328#32 (k0_off2_inb L 2)).view.loc (VT d L) ↦[(oC L 3328#32 (k0_off2_inb L 2)).view.set]{fullShare} n.O d)
        ∗ ((oC L 4992#32 (k0_off2_inb L 3)).view.loc (VT d L) ↦[(oC L 4992#32 (k0_off2_inb L 3)).view.set]{fullShare} n.O d)
        ∗ ((oC L 6656#32 (k0_off2_inb L 4)).view.loc (VT d L) ↦[(oC L 6656#32 (k0_off2_inb L 4)).view.set]{fullShare} n.O d)
        ∗ ((oC L 8320#32 (k0_off2_inb L 5)).view.loc (VT d L) ↦[(oC L 8320#32 (k0_off2_inb L 5)).view.set]{fullShare} n.O d)
        ∗ ((oC L 9984#32 (k0_off2_inb L 6)).view.loc (VT d L) ↦[(oC L 9984#32 (k0_off2_inb L 6)).view.set]{fullShare} n.O d)
        ∗ ((oC L 11648#32 (k0_off2_inb L 7)).view.loc (VT d L) ↦[(oC L 11648#32 (k0_off2_inb L 7)).view.set]{fullShare} n.O d)
        ∗ ((lV).view.loc (VT d L) ↦[(lV).view.set]{fullShare} g0)
        ∗ ((rH0).view.loc (VT d L) ↦[(rH0).view.set]{fullShare} t0)
        ∗ ((rH1).view.loc (VT d L) ↦[(rH1).view.set]{fullShare} t0)
        ∗ semVal (VT d L, SemLoc.dma cc0_scoped0.sem) 0 ∗ semVal (VT d L, SemLoc.dma cc0_scratch2.sem) 0
        ∗ semVal (VT d L, SemLoc.dma cc0_scratch3.sem) 0 ∗ semVal (VT d L, SemLoc.dma cc0_scratch4.sem) 0
        ∗ owes (VT d L) O W) : sProp 𝕄)
      ⊢ wp frame (wpE (defs₀ (F := F)) 𝒱₀ (VT d L) none) Set.univ
          (cc0_gather_kernel L xV (Memref.isWhole_whole _) iV (Memref.isWhole_whole _) oV (Memref.isWhole_whole _)
            lV (Memref.isWhole_whole _) rV (Memref.isWhole_whole _) cc0_scratch2 cc0_scratch3 cc0_scratch4 cc0_scoped0)
          fun _ => tileEnd n d L O W q1 q2 := by
  rw [cc0_gather_kernel_eq_skeleton]; unfold cc0_gather_kernel_skel
  iintro ⟨#Hmw, HI, HX0, HX1, HO0, HO1, HO2, HO3, HO4, HO5, HO6, HO7, HG, HT0, HT1, Hc0, Hc1, Hc2, Hc3, HO⟩
  sl_exec
  -- the list is copied in: its words are the task's row numbers, all in range
  have hl0 := listIs_of_copy n d L (tile_run.sl.dma0 n d L) rfl (lV).view.junk
  generalize (lV).view.writes (Elt F) (lV).view.junk [⟨Rect.whole cc0_scratch0.ty.shape, tile_run.sl.dma0 n d L⟩] = fl at hl0 ⊢
  have hin := listIs_lt n d L hn fl hl0
  have hlt : ∀ j : S13312.Idx, (show BitVec 32 from fl j).toNat < 2600000 := fun j =>
    (congrArg BitVec.toNat (hl0 j)).trans_lt (hn d _)
  -- the last two copies out share their semaphore and are both waited for before the task ends
  ihave HG' := (pointsTo_share (PosShare.mem_left_op_right fullShare)).1 $$ HG
  icases HG' with ⟨HG0, HG1⟩
  set_option sl_exec.maxSteps 67 in sl_exec
  imod (Transfers.batched_alloc countersEmb (VT d L) (default : HIx 1) 851968 2 (E := Set.univ)) $$ Hc3 with HB
  iapply (Transfers.wp_dmaBatched countersEmb 𝒱₀ (VT d L) none (default : HIx 1) 851968 (m := 2) (Ds := []) (u := 0) (chunk_amount L 9984#32 (k0_off2_inb L 6) _) (Finset.Subset.refl _) Nat.zero_lt_two (Nat.zero_le _)) $$ [HT0 HO6 HB]
  · isplitl [HT0]; · iexact HT0
    isplitl [HO6]; · iexact HO6
    iexact HB
  iintro HB
  rw [show ∀ f : PUnit → Prog (TpuEff nD τ sig (Elt F) Λ₀ (VT d L).2) PUnit, (Prog.ret PUnit.unit).bind f = f PUnit.unit from fun _ => rfl]
  set_option sl_exec.maxSteps 5 in sl_exec
  iapply (Transfers.wp_dmaBatched countersEmb 𝒱₀ (VT d L) none (default : HIx 1) 851968 (m := 2) (Ds := [_]) (u := 0) (chunk_amount L 11648#32 (k0_off2_inb L 7) _) (Finset.Subset.refl _) Nat.one_lt_two (Nat.zero_le _)) $$ [HT1 HO7 HB]
  · isplitl [HT1]; · iexact HT1
    isplitl [HO7]; · iexact HO7
    iexact HB
  iintro HB
  rw [show ∀ f : PUnit → Prog (TpuEff nD τ sig (Elt F) Λ₀ (VT d L).2) PUnit, (Prog.ret PUnit.unit).bind f = f PUnit.unit from fun _ => rfl]
  sl_exec
  ihave HG := (pointsTo_share (PosShare.mem_left_op_right fullShare)).2 $$ [HG0 HG1]
  · isplitl [HG0] <;> iassumption
  sl_step
  isplitl [HI]; · iexact HI
  isplitl [HX0]; · iexact HX0
  isplitl [HX1]; · iexact HX1
  isplitl [HO0]
  · iapply (Entails.of_eq (chunk_flown n d L fl hl0 0 _ (k0_off2_eq L 0) _ _ fun y => ((congrFun (read_last _ _ _ _) y).trans
      (gathered n d L fl hlt 0 0 (by decide) _ _ _ _ _ y))))
    iexact HO0
  isplitl [HO1]
  · iapply (Entails.of_eq (chunk_flown n d L fl hl0 1 _ (k0_off2_eq L 1) _ _ fun y => ((congrFun (read_last _ _ _ _) y).trans
      (gathered n d L fl hlt 1 1664 (by decide) _ _ _ _ _ y))))
    iexact HO1
  isplitl [HO2]
  · iapply (Entails.of_eq (chunk_flown n d L fl hl0 2 _ (k0_off2_eq L 2) _ _ fun y => ((congrFun (read_last _ _ _ _) y).trans
      (gathered n d L fl hlt 2 3328 (by decide) _ _ _ _ _ y))))
    iexact HO2
  isplitl [HO3]
  · iapply (Entails.of_eq (chunk_flown n d L fl hl0 3 _ (k0_off2_eq L 3) _ _ fun y => ((congrFun (read_last _ _ _ _) y).trans
      (gathered n d L fl hlt 3 4992 (by decide) _ _ _ _ _ y))))
    iexact HO3
  isplitl [HO4]
  · iapply (Entails.of_eq (chunk_flown n d L fl hl0 4 _ (k0_off2_eq L 4) _ _ fun y => ((congrFun (read_last _ _ _ _) y).trans
      (gathered n d L fl hlt 4 6656 (by decide) _ _ _ _ _ y))))
    iexact HO4
  isplitl [HO5]
  · iapply (Entails.of_eq (chunk_flown n d L fl hl0 5 _ (k0_off2_eq L 5) _ _ fun y => ((congrFun (read_last _ _ _ _) y).trans
      (gathered n d L fl hlt 5 8320 (by decide) _ _ _ _ _ y))))
    iexact HO5
  isplitl [HB_dst0]
  · iapply (Entails.of_eq (chunk_batched n d L fl hl0 6 _ (k0_off2_eq L 6) _ _ fun y => ((congrFun (read_last _ _ _ _) y).trans
      (gathered n d L fl hlt 6 9984 (by decide) _ _ _ _ _ y))))
    iexact HB_dst0
  isplitl [HB_dst1]
  · iapply (Entails.of_eq (chunk_batched n d L fl hl0 7 _ (k0_off2_eq L 7) _ _ fun y => ((congrFun (read_last _ _ _ _) y).trans
      (gathered n d L fl hlt 7 11648 (by decide) _ _ _ _ _ y))))
    iexact HB_dst1
  isplitl [HG]; · iexists _; iexact HG
  isplitl [HB_src0]; · iexists _; iexact HB_src0
  isplitl [HB_src1]; · iexists _; iexact HB_src1
  isplitl [Hc0]; · iexact Hc0
  isplitl [Hc1]; · iexact Hc1
  isplitl [Hc2]; · iexact Hc2
  isplitl [HB]; · iexact HB
  iexists _; isplitr
  swap; · iexact HO
  ipureintro; intro p hp
  repeat (rcases Finset.mem_insert.mp hp with hp | hp; · exact .inr (hp ▸ rfl))
  exact .inl hp

end Cert.Proof.Run

end
-- ==== Proof.Body.lean ====
/-
  The task at `L` from what it is handed to what it brings back, and the obligation the launch asks of the tiles.
-/
module

public import proofs.«01_k».proof.Proof.Tile

@[expose] public section

set_option maxRecDepth 16384

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "iV" => (Memref.whole Cert.KernelIdeal.main_v6_scv : Memref Cert.KernelIdeal.sig Kind.scVector Space.hbm Cert.KernelIdeal.S425984 EltTy.i32)
local notation "xV" => (Memref.whole Cert.KernelIdeal.main_v7_scv : Memref Cert.KernelIdeal.sig Kind.scVector Space.hbm Cert.KernelIdeal.S2600000x16 EltTy.f32)
local notation "oV" => (Memref.whole Cert.KernelIdeal.main_v8_scv : Memref Cert.KernelIdeal.sig Kind.scVector Space.hbm Cert.KernelIdeal.S425984x16 EltTy.f32)
local notation "lV" => (Memref.whole Cert.KernelIdeal.cc0_scratch0 : Memref Cert.KernelIdeal.sig Kind.scVector Space.vmem Cert.KernelIdeal.S13312 EltTy.i32)
local notation "rV" => (Memref.whole Cert.KernelIdeal.cc0_scratch1 : Memref Cert.KernelIdeal.sig Kind.scVector Space.vmem Cert.KernelIdeal.S2x1664x16 EltTy.f32)

variable (n : Ins F) (d : Dev nD) (L : grid0.Coords)

/-! ## The tile's own semaphores and buffers -/

abbrev cA (d : Dev nD) (L : grid0.Coords) : GSem nD τ sig := (VT d L, .dma cc0_scoped0.sem)
abbrev cB (d : Dev nD) (L : grid0.Coords) : GSem nD τ sig := (VT d L, .dma cc0_scratch2.sem)
abbrev cC (d : Dev nD) (L : grid0.Coords) : GSem nD τ sig := (VT d L, .dma cc0_scratch3.sem)
abbrev cD (d : Dev nD) (L : grid0.Coords) : GSem nD τ sig := (VT d L, .dma cc0_scratch4.sem)

/-- What is left of the tile's semaphores when the four the task uses are taken out. -/
abbrev restCells (d : Dev nD) (L : grid0.Coords) : Finset (GSem nD τ sig) :=
  ((((ownCells (VT d L)).erase (cA d L)).erase (cB d L)).erase (cC d L)).erase (cD d L)

theorem ownSems_split :
    (ownSems0 (VT d L) : sProp 𝕄)
      = iprop(semVal (cA d L) 0 ∗ semVal (cB d L) 0 ∗ semVal (cC d L) 0 ∗ semVal (cD d L) 0
          ∗ bigSep (restCells d L) fun g => semVal g 0) := by
  have hA : cA d L ∈ ownCells (VT d L) :=
    mem_ownCells.mpr ⟨rfl, show (SemLoc.dma cc0_scoped0.sem : SemLoc sig).isScoped .scVector = true by decide⟩
  have hB : cB d L ∈ ownCells (VT d L) :=
    mem_ownCells.mpr ⟨rfl, show (SemLoc.dma cc0_scratch2.sem : SemLoc sig).isScoped .scVector = true by decide⟩
  have hC : cC d L ∈ ownCells (VT d L) :=
    mem_ownCells.mpr ⟨rfl, show (SemLoc.dma cc0_scratch3.sem : SemLoc sig).isScoped .scVector = true by decide⟩
  have hD : cD d L ∈ ownCells (VT d L) :=
    mem_ownCells.mpr ⟨rfl, show (SemLoc.dma cc0_scratch4.sem : SemLoc sig).isScoped .scVector = true by decide⟩
  have ne : ∀ {a b : SemLoc sig}, a ≠ b → ((VT d L, a) : GSem nD τ sig) ≠ (VT d L, b) := fun h e => h (Prod.mk.inj e).2
  have hBA : cB d L ≠ cA d L := ne (by decide)
  have hCA : cC d L ≠ cA d L := ne (by decide)
  have hCB : cC d L ≠ cB d L := ne (by decide)
  have hDA : cD d L ≠ cA d L := ne (by decide)
  have hDB : cD d L ≠ cB d L := ne (by decide)
  have hDC : cD d L ≠ cC d L := ne (by decide)
  unfold SparseCore.Cfg.ownSems0
  rw [SparseCore.bigSep_erase' hA, SparseCore.bigSep_erase' (Finset.mem_erase.mpr ⟨hBA, hB⟩),
    SparseCore.bigSep_erase' (Finset.mem_erase.mpr ⟨hCB, Finset.mem_erase.mpr ⟨hCA, hC⟩⟩),
    SparseCore.bigSep_erase' (Finset.mem_erase.mpr ⟨hDC, Finset.mem_erase.mpr ⟨hDB, Finset.mem_erase.mpr ⟨hDA, hD⟩⟩⟩)]

/-- What is left of the tile's buffers when the list and the row buffer are taken out. -/
abbrev restBufs (L : grid0.Coords) : Finset (DevRef τ sig) :=
  ((ownRefs (τ := τ) (.scVector (cV L) (jV L))).erase ((Proc.scVector (cV L) (jV L)).devRef cc0_scratch0)).erase
    ((Proc.scVector (cV L) (jV L)).devRef cc0_scratch1)

theorem ownBufs_split :
    (ownBufs (VT d L) : sProp 𝕄)
      = iprop((∃ f, (lV).view.loc (VT d L) ↦{fullShare} f) ∗ (∃ f, (rV).view.loc (VT d L) ↦{fullShare} f)
          ∗ bigSep (restBufs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  have hne : (Proc.scVector (cV L) (jV L)).devRef cc0_scratch1 ≠ (Proc.scVector (cV L) (jV L)).devRef cc0_scratch0 :=
    fun e => absurd (Proc.devRef_injective _ e) (show (cc0_scratch1 : Ref sig .scVector) ≠ cc0_scratch0 by decide)
  rw [SparseCore.bigSep_erase' (Finset.mem_erase.mpr ⟨hne,
    SparseCore.Cfg.mem_ownRefs_of_owner (p := Proc.scVector (cV L) (jV L)) (b := (Proc.scVector (cV L) (jV L)).devRef cc0_scratch1) rfl⟩)]

/-! ## The row buffer's halves -/

theorem half_zero : (rH0).view.set = (Rect.unit (s := S2x1664x16) ![0, 0, 0] S1x1664x16.size inb_S2x1664x16_S1x1664x16_0_0_0).set := by
  show (((View.whole (cc0_scratch1 : Ref sig .scVector)).slice (Rect.unit (s := S2x1664x16) ![0, 0, 0] S1x1664x16.size inb_S2x1664x16_S1x1664x16_0_0_0)).reshape S1664x16 squeezes_S1x1664x16_S1664x16.numel_eq).set = _
  rw [View.set_reshape, View.set_slice]; exact Finset.map_refl
theorem half_one : (rH1).view.set = (Rect.unit (s := S2x1664x16) ![1, 0, 0] S1x1664x16.size inb_S2x1664x16_S1x1664x16_1_0_0).set := by
  show (((View.whole (cc0_scratch1 : Ref sig .scVector)).slice (Rect.unit (s := S2x1664x16) ![1, 0, 0] S1x1664x16.size inb_S2x1664x16_S1x1664x16_1_0_0)).reshape S1664x16 squeezes_S1x1664x16_S1664x16.numel_eq).set = _
  rw [View.set_reshape, View.set_slice]; exact Finset.map_refl

theorem mem_half_zero (i : S2x1664x16.Idx) : i ∈ (rH0).view.set ↔ (i 0).val = 0 := by
  rw [half_zero, Rect.mem_set_unit]
  constructor
  · intro h; have h0 := (h 0).2; change (i 0).val < 0 + 1 at h0; omega
  · intro h a
    match a with
    | 0 => exact ⟨Nat.zero_le _, show (i 0).val < 0 + 1 by omega⟩
    | 1 => exact ⟨Nat.zero_le _, show (i 1).val < 0 + 1664 by have : (i 1).val < 1664 := (i 1).isLt; omega⟩
    | 2 => exact ⟨Nat.zero_le _, show (i 2).val < 0 + 16 by have : (i 2).val < 16 := (i 2).isLt; omega⟩
theorem mem_half_one (i : S2x1664x16.Idx) : i ∈ (rH1).view.set ↔ (i 0).val = 1 := by
  rw [half_one, Rect.mem_set_unit]
  have hi : (i 0).val < 2 := (i 0).isLt
  constructor
  · intro h; have h0 := (h 0).1; change 1 ≤ (i 0).val at h0; omega
  · intro h a
    match a with
    | 0 => exact ⟨show 1 ≤ (i 0).val by omega, show (i 0).val < 1 + 1 by omega⟩
    | 1 => exact ⟨Nat.zero_le _, show (i 1).val < 0 + 1664 by have : (i 1).val < 1664 := (i 1).isLt; omega⟩
    | 2 => exact ⟨Nat.zero_le _, show (i 2).val < 0 + 16 by have : (i 2).val < 16 := (i 2).isLt; omega⟩

theorem halves_disjoint : Disjoint (rH0).view.set (rH1).view.set := by
  refine Finset.disjoint_left.mpr fun i h0 h1 => ?_
  have e0 := (mem_half_zero i).mp h0; have e1 := (mem_half_one i).mp h1; omega
theorem halves_union : (rH0).view.set ∪ (rH1).view.set = Finset.univ := by
  refine Finset.eq_univ_iff_forall.mpr fun i => Finset.mem_union.mpr ?_
  have hi : (i 0).val < 2 := (i 0).isLt
  rcases Nat.lt_or_ge (i 0).val 1 with h | h
  · exact .inl ((mem_half_zero i).mpr (by omega))
  · exact .inr ((mem_half_one i).mpr (by omega))

/-- The row buffer, whole, is its two halves; -/
theorem halves_open (f : Buf (Elt F) ((rV).view.loc (VT d L))) :
    ((rV).view.loc (VT d L) ↦{fullShare} f : sProp 𝕄)
      ⊢ iprop(((rH0).view.loc (VT d L) ↦[(rH0).view.set]{fullShare} f) ∗ ((rH1).view.loc (VT d L) ↦[(rH1).view.set]{fullShare} f)) := by
  refine (Entails.of_eq ?_).trans (pointsTo_union halves_disjoint).1
  rw [halves_union]
/-- the halves, at whatever contents, are the row buffer at some. -/
theorem halves_close (f g : Buf (Elt F) ((rV).view.loc (VT d L))) :
    iprop(((rH0).view.loc (VT d L) ↦[(rH0).view.set]{fullShare} f) ∗ ((rH1).view.loc (VT d L) ↦[(rH1).view.set]{fullShare} g))
      ⊢ (iprop(∃ h, (rV).view.loc (VT d L) ↦{fullShare} h) : sProp 𝕄) := by
  refine (pointsTo_join halves_disjoint).trans ?_
  rw [halves_union]
  iintro H; iexists _; iexact H

theorem bigSep_chunks {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem list_whole : (lV).view.set = Finset.univ := View.set_whole _

variable [FloatOps F]

set_option maxHeartbeats 1000000 in
/-- The task, from what the launch hands the tile to what it hands back. -/
theorem tile_body (hn : InRange n) (O : CellTallies nD τ sig (HIx 1)) (W : Waits sig (HIx 1)) (hO : ∀ g, O g none = 0) :
    iprop(levAts (K (F := F)).L (K (F := F)).lev ∗ emp ∗ goP n d (wL L)
        ∗ scopedBufs (VT d L) ∗ scopedSems0 (VT d L) ∗ owes (VT d L) O W)
      ⊢ wp frame (wpE (defs₀ (F := F)) 𝒱₀ (VT d L) none) Set.univ
          (cc0_gather_kernel L xV (Memref.isWhole_whole _) iV (Memref.isWhole_whole _) oV (Memref.isWhole_whole _)
            lV (Memref.isWhole_whole _) rV (Memref.isWhole_whole _) cc0_scratch2 cc0_scratch3 cc0_scratch4 cc0_scoped0)
          fun _ => iprop(tdP n d (wL L) ∗ scopedBufs (VT d L) ∗ scopedSems0 (VT d L)
            ∗ ∃ W', ⌜∀ p ∈ W', p ∈ W ∨ p.2 = none⌝ ∗ owes (VT d L) O W') := by
  rw [(K (F := F)).scopedBufs_V facts d (cV L) (jV L), SparseCore.Cfg.scopedSems0_V (Val := Elt F) d (cV L) (jV L), ownSems_split, ownBufs_split]
  iintro ⟨#Hlv, -, ⟨HI, HX, HOs⟩, ⟨⟨%g0, HG⟩, ⟨%t0, HT⟩, Hbufs⟩, ⟨Hc0, Hc1, Hc2, Hc3, Hsems⟩, HO⟩
  ihave Hmw := (show levAts (K (F := F)).L (K (F := F)).lev ⊢ Transfers.MayWaits (VT d L) (default : HIx 1) O from
    (K (F := F)).mayWaits_none (thr := VT d L) hO) $$ Hlv
  ihave HIs := (pointsTo_split_subset (q := wq (wL L)) (f := n.I d) (S := Finset.univ) (Finset.subset_univ (iPc L).view.set)).1 $$ HI
  icases HIs with ⟨HI, HIr⟩
  ihave HXs := (pointsTo_share (PosShare.mem_left_op_right (wq (wL L)))).1 $$ HX
  icases HXs with ⟨HX0, HX1⟩
  ihave HTs := (halves_open d L t0) $$ HT
  icases HTs with ⟨HT0, HT1⟩
  ihave HOs' := (Entails.of_eq (bigSep_chunks _)) $$ HOs
  icases HOs' with ⟨HO0, HO1, HO2, HO3, HO4, HO5, HO6, HO7⟩
  iapply (wp_wand_r frame (wpE (defs₀ (F := F)) 𝒱₀ (VT d L) none) Set.univ)
  isplitl [HI HX0 HX1 HO0 HO1 HO2 HO3 HO4 HO5 HO6 HO7 HG HT0 HT1 Hc0 Hc1 Hc2 Hc3 HO]
  · iapply (tile_run n d L hn O W g0 t0 (wq (wL L)).left (wq (wL L)).right)
    isplitr; · iexact Hmw
    isplitl [HI]; · iexact HI
    isplitl [HX0]; · iexact HX0
    isplitl [HX1]; · iexact HX1
    isplitl [HO0]; · iapply (Entails.of_eq (chunk_start d L 0 _ (k0_off2_eq L 0) _ _).symm); iexact HO0
    isplitl [HO1]; · iapply (Entails.of_eq (chunk_start d L 1 _ (k0_off2_eq L 1) _ _).symm); iexact HO1
    isplitl [HO2]; · iapply (Entails.of_eq (chunk_start d L 2 _ (k0_off2_eq L 2) _ _).symm); iexact HO2
    isplitl [HO3]; · iapply (Entails.of_eq (chunk_start d L 3 _ (k0_off2_eq L 3) _ _).symm); iexact HO3
    isplitl [HO4]; · iapply (Entails.of_eq (chunk_start d L 4 _ (k0_off2_eq L 4) _ _).symm); iexact HO4
    isplitl [HO5]; · iapply (Entails.of_eq (chunk_start d L 5 _ (k0_off2_eq L 5) _ _).symm); iexact HO5
    isplitl [HO6]; · iapply (Entails.of_eq (chunk_start d L 6 _ (k0_off2_eq L 6) _ _).symm); iexact HO6
    isplitl [HO7]; · iapply (Entails.of_eq (chunk_start d L 7 _ (k0_off2_eq L 7) _ _).symm); iexact HO7
    isplitl [HG]; · rw [list_whole]; iexact HG
    isplitl [HT0]; · iexact HT0
    isplitl [HT1]; · iexact HT1
    isplitl [Hc0]; · iexact Hc0
    isplitl [Hc1]; · iexact Hc1
    isplitl [Hc2]; · iexact Hc2
    isplitl [Hc3]; · iexact Hc3
    iexact HO
  iintro %_ ⟨HI, HX0, HX1, HO0, HO1, HO2, HO3, HO4, HO5, HO6, HO7, ⟨%fg, HG⟩, ⟨%f0, HT0⟩, ⟨%f1, HT1⟩, Hc0, Hc1, Hc2, Hc3, HO⟩
  isplitl [HI HIr HX0 HX1 HO0 HO1 HO2 HO3 HO4 HO5 HO6 HO7]
  · isplitl [HI HIr]
    · iapply (pointsTo_split_subset (q := wq (wL L)) (f := n.I d) (S := Finset.univ) (Finset.subset_univ (iPc L).view.set)).2
      isplitl [HI] <;> iassumption
    isplitl [HX0 HX1]
    · iapply (pointsTo_share (PosShare.mem_left_op_right (wq (wL L)))).2
      isplitl [HX0] <;> iassumption
    iapply (Entails.of_eq (bigSep_chunks _).symm)
    isplitl [HO0]; · iexact HO0
    isplitl [HO1]; · iexact HO1
    isplitl [HO2]; · iexact HO2
    isplitl [HO3]; · iexact HO3
    isplitl [HO4]; · iexact HO4
    isplitl [HO5]; · iexact HO5
    isplitl [HO6]; · iexact HO6
    iexact HO7
  isplitl [HG HT0 HT1 Hbufs]
  · isplitl [HG]; · iexists fg; rw [← list_whole]; iexact HG
    isplitl [HT0 HT1]
    · iapply (halves_close d L f0 f1); isplitl [HT0] <;> iassumption
    iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexact HO

/-! ## The obligation -/

/-- The coordinates of core `c`, tile `s`. -/
def at_ (c : Fin (grid0.bound 0)) (s : Fin (grid0.bound 1)) : grid0.Coords :=
  fun | 0 => c | 1 => s | ⟨_ + 2, h⟩ => absurd h (Nat.not_lt.2 (Nat.le_add_left _ _))

theorem defs_tile (c : Fin τ.nSC) (s : Fin τ.nSub) :
    defs₀ (F := F) (.scVector c s) 0 ()
      = SparseCore.onTile hcore0 hsub0 (fun c s => cc0_gather_kernel (at_ c s)
          xV (Memref.isWhole_whole _) iV (Memref.isWhole_whole _) oV (Memref.isWhole_whole _)
          lV (Memref.isWhole_whole _) rV (Memref.isWhole_whole _) cc0_scratch2 cc0_scratch3 cc0_scratch4 cc0_scoped0) ⟨⟩ c s := rfl

/-- A recorded wait at no call is a recorded wait at no call or at this one. -/
theorem post_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr; · ipureintro; exact fun p hp => (hW' p hp).imp_right Or.inl
  iexact HO

theorem tileObl (hn : InRange n) : (K (F := F)).TileObl (D (F := F)) 𝒱 (P n) v₀ 0 := by
  intro d c i O W hO _ _
  simp only [show (P n).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs_tile]; simp only [SparseCore.onTile, hci, and_self, ↓reduceDIte]
  exact (tile_body n d (at_ ⟨_, hci.1⟩ ⟨_, hci.2⟩) hn O W hO).trans (wp_mono frame _ _ fun _ => post_weaken)

end Cert.Proof.Run

end
-- ==== Proof.Split.lean ====
/-
  The three arrays of the SparseCore call as the tasks' pieces: held whole they are what the call's start carries, and what its end carries
  is the three arrays whole again, the output at the looked-up rows.
-/
module

public import proofs.«01_k».proof.Proof.Setup
public import Idealize.ShloMosaic.Lib.Pipeline.Cells
public import Idealize.ShloMosaic.Lib.ShareLeaves

@[expose] public section

set_option maxRecDepth 16384

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (leaf pointsTo_leaves)

variable {F : FTy → Type}

local notation "𝕄" => MT nD τ sig (HIx 1) (Elt F) ℕ UU ℕ

variable (n : Ins F)

/-! ## The chunks tile the output -/

theorem mem_chunkSet (w : Task) (r : Fin 8) (j : S425984x16.Idx) :
    j ∈ chunkSet w r ↔ 26624 * w.2.val + 13312 * w.1.val + 1664 * r.val ≤ (j 0).val ∧ (j 0).val < 26624 * w.2.val + 13312 * w.1.val + 1664 * r.val + 1664 := by
  rw [Rect.mem_set_unit]
  constructor
  · intro h; exact h 0
  · intro h a
    match a with
    | 0 => exact h
    | 1 => exact ⟨Nat.zero_le _, (j 1).isLt⟩

theorem chunks_disjoint (x y : Task × Fin 8) (h : x ≠ y) : Disjoint (chunkSet x.1 x.2) (chunkSet y.1 y.2) := by
  rw [Finset.disjoint_left]
  intro j hx hy
  rw [mem_chunkSet] at hx hy
  apply h
  obtain ⟨⟨c, s⟩, r⟩ := x
  obtain ⟨⟨c', s'⟩, r'⟩ := y
  have := c.isLt; have := c'.isLt; have := s.isLt; have := s'.isLt; have := r.isLt; have := r'.isLt
  dsimp only at hx hy
  have e1 : s.val = s'.val := by omega
  have e2 : c.val = c'.val := by omega
  have e3 : r.val = r'.val := by omega
  rw [Fin.ext e1, Fin.ext e2, Fin.ext e3]

theorem chunks_cover : ((Finset.univ : Finset (Task × Fin 8)).biUnion fun x => chunkSet x.1 x.2) = Finset.univ := by
  ext j
  simp only [Finset.mem_biUnion, Finset.mem_univ, true_and, iff_true]
  have hj : (j 0).val < 425984 := (j 0).isLt
  refine ⟨((⟨(j 0).val / 13312 % 2, by omega⟩, ⟨(j 0).val / 26624, by omega⟩), ⟨(j 0).val % 13312 / 1664, by omega⟩), ?_⟩
  rw [mem_chunkSet]
  dsimp only
  omega

/-! ## Shares and chunks -/

theorem leafOf_bijective : Function.Bijective leafOf := by
  refine (Fintype.bijective_iff_injective_and_card _).mpr ⟨?_, by simp⟩
  rintro ⟨c, s⟩ ⟨c', s'⟩ h
  have h' : 16 * c.val + s.val = 16 * c'.val + s'.val := congrArg Fin.val h
  have := s.isLt; have := s'.isLt
  have e1 : c.val = c'.val := by omega
  have e2 : s.val = s'.val := by omega
  rw [Fin.ext e1, Fin.ext e2]

/-- An array the tasks only read, dealt to them in equal shares. -/
theorem shares (ℓ : Loc nD τ sig) (f : Buf (Elt F) ℓ) :
    (ℓ ↦{fullShare} f : sProp 𝕄) = bigSep Finset.univ fun w : Task => ℓ ↦{wq w} f := by
  rw [pointsTo_leaves Finset.univ f 5 fullShare, BI.bigSep_univ_equiv (Equiv.ofBijective leafOf leafOf_bijective)]
  rfl

/-- The output, dealt to the tasks by chunks. -/
theorem chunks (d : Dev nD) (f : Buf (Elt F) (oLoc d)) :
    (oLoc d ↦{fullShare} f : sProp 𝕄) = bigSep Finset.univ fun w : Task => bigSep Finset.univ fun r : Fin 8 => oPc d w r f := by
  rw [← BI.bigSep_univ_prod (fun x : Task × Fin 8 => (oPc d x.1 x.2 f : sProp 𝕄))]
  refine Eq.trans ?_ (pointsTo_biUnion (ℓ := oLoc d) Finset.univ (fun x : Task × Fin 8 => chunkSet x.1 x.2) (fun x _ y _ h => chunks_disjoint x y h))
  rw [show ((Finset.univ : Finset (Task × Fin 8)).biUnion fun x => (chunkSet x.1 x.2 : Finset (Idx (oLoc d)))) = Finset.univ from chunks_cover]

/-- The three arrays whole are the tasks' pieces. -/
theorem pieces (d : Dev nD) (f : Buf (Elt F) (oLoc d)) :
    (iprop((iLoc d ↦{fullShare} n.I d) ∗ (xLoc d ↦{fullShare} n.X d) ∗ (oLoc d ↦{fullShare} f)) : sProp 𝕄)
      = bigSep Finset.univ fun c : Fin 2 => bigSep Finset.univ fun i : Fin 16 =>
          iprop(iSh n d (c, i) ∗ xSh n d (c, i) ∗ bigSep Finset.univ fun r : Fin 8 => oPc d (c, i) r f) := by
  rw [← BI.bigSep_univ_prod (fun w : Task => (iprop(iSh n d w ∗ xSh n d w ∗ bigSep Finset.univ fun r : Fin 8 => oPc d w r f) : sProp 𝕄)),
    shares, shares (xLoc d), chunks]
  refine Eq.symm ((BI.bigSep_sep Finset.univ (fun w : Task => (iSh n d w : sProp 𝕄)) (fun w : Task => (iprop(xSh n d w ∗ bigSep Finset.univ fun r : Fin 8 => oPc d w r f) : sProp 𝕄))).trans ?_)
  exact congrArg (fun R : sProp 𝕄 => (iprop((bigSep Finset.univ fun w : Task => (iSh n d w : sProp 𝕄)) ∗ R) : sProp 𝕄))
    (BI.bigSep_sep Finset.univ (fun w : Task => (xSh n d w : sProp 𝕄)) (fun w : Task => (bigSep Finset.univ fun r : Fin 8 => oPc d w r f : sProp 𝕄)))

theorem start (d : Dev nD) :
    iprop((iLoc d ↦{fullShare} n.I d) ∗ (xLoc d ↦{fullShare} n.X d) ∗ (oLoc d ↦{fullShare} n.O d))
      ⊢ bigSep Finset.univ fun c : Fin ((K (F := F)).nCore 0) => (P n).st 0 d c :=
  Entails.of_eq (pieces n d (n.O d))

theorem finish (d : Dev nD) :
    (bigSep Finset.univ fun c : Fin ((K (F := F)).nCore 0) => (P n).dn 0 d c)
      ⊢ iprop((iLoc d ↦{fullShare} n.I d) ∗ (xLoc d ↦{fullShare} n.X d) ∗ (oLoc d ↦{fullShare} rows n d)) :=
  Entails.of_eq (pieces n d (rows n d)).symm

end Cert.Proof.Run

end
-- ==== Proof.Dense.lean ====
/-
  The TensorCore call: the dense part on one block of 1024 rows (`dense`), the triple of its printed body, the pipeline's proof data over
  any contents of the arrays the region finds, and the body obligation at every grid point.
-/
module

public import proofs.«01_k».proof.Proof.Setup
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Frame
public import Idealize.ShloMosaic.Lib.Pipeline.Value

@[expose] public section

set_option maxRecDepth 16384

noncomputable section

namespace Cert.Proof.Run

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation)

variable {F : FTy → Type} [FloatOps F]

local notation "𝕄" => MT nD τ sig (HIx 1) (Elt F) ℕ UU ℕ

/-! ## The dense part on one block -/
/-- What the body leaves in the output's block, from the blocks of its fifteen inputs. -/
def dense (x0 : Vec F S1024x416 .f32) (x1 : Vec F S1024x16 .f32) (x2 : Vec F S416x256 .f32) (x3 : Vec F S16x256 .f32) (x4 : Vec F S1x256 .f32) (x5 : Vec F S256x128 .f32) (x6 : Vec F S1x128 .f32) (x7 : Vec F S1x128 .f32) (x8 : Vec F S1x416 .f32) (x9 : Vec F S1x16 .f32) (x10 : Vec F S416x16 .f32) (x11 : Vec F S16x16 .f32) (x12 : Vec F S416x16 .f32) (x13 : Vec F S16x16 .f32) (x14 : Vec F S1x1 .f32) : Vec F S1024x1 .f32 :=
  k1_pay5 (k1_pay1 x0) (k1_pay2 x1) (k1_pay3 x0 x1 x2 x3 x4 x5 x6 x7) (k1_pay4 x0 x8) x9 x10 x11 x12 x13 x14

theorem zero_off : (![0, 0] : Fin 2 → ℕ) = fun _ => 0 := by funext a; match a with | 0 => rfl | 1 => rfl

/-- A load of a whole block reads what the memref holds. -/
theorem load_whole {sp : Space} {S : Shape} {e : EltTy} (v : View sig .tc sp S e) {off : Fin S.rank → ℕ} (h : off = fun _ => 0)
    (inb : ∀ a, off a + S.size a ≤ S.size a) (f : v.ty.Contents (Elt F)) :
    v.readAt (Elt F) (Rect.unit (s := S) off S.size inb).toLoadRect f = v.read (Elt F) f :=
  (View.readAt_eq_ld v f _).trans (View.ld_unit_zero h inb _)
/-- The printed body on whole blocks: it reads its inputs and leaves `dense` of them in its output. -/
theorem dense_sound (c : Dev nD) (E : Set ℕ) (i : grid1.Coords) (arg1 : Memref sig .tc .vmem S1024x416 .f32) (harg1 : arg1.IsWhole) (arg2 : Memref sig .tc .vmem S1024x16 .f32) (harg2 : arg2.IsWhole) (arg3 : Memref sig .tc .vmem S416x256 .f32) (harg3 : arg3.IsWhole) (arg4 : Memref sig .tc .vmem S16x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x416 .f32) (harg9 : arg9.IsWhole) (arg10 : Memref sig .tc .vmem S1x16 .f32) (harg10 : arg10.IsWhole) (arg11 : Memref sig .tc .vmem S416x16 .f32) (harg11 : arg11.IsWhole) (arg12 : Memref sig .tc .vmem S16x16 .f32) (harg12 : arg12.IsWhole) (arg13 : Memref sig .tc .vmem S416x16 .f32) (harg13 : arg13.IsWhole) (arg14 : Memref sig .tc .vmem S16x16 .f32) (harg14 : arg14.IsWhole) (arg15 : Memref sig .tc .vmem S1x1 .f32) (harg15 : arg15.IsWhole) (arg16 : Memref sig .tc .vmem S1024x1 .f32) (harg16 : arg16.IsWhole)
    (x0 : Vec F S1024x416 .f32) (x1 : Vec F S1024x16 .f32) (x2 : Vec F S416x256 .f32) (x3 : Vec F S16x256 .f32) (x4 : Vec F S1x256 .f32) (x5 : Vec F S256x128 .f32) (x6 : Vec F S1x128 .f32) (x7 : Vec F S1x128 .f32) (x8 : Vec F S1x416 .f32) (x9 : Vec F S1x16 .f32) (x10 : Vec F S416x16 .f32) (x11 : Vec F S16x16 .f32) (x12 : Vec F S416x16 .f32) (x13 : Vec F S16x16 .f32) (x14 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (dense x0 x1 x2 x3 x4 x5 x6 x7 x8 x9 x10 x11 x12 x13 x14)) -∗ K ⟨⟩))
      ⊢ wp frame (wpE (defs₀ (F := F)) Variants.none c none) E (cc1__dense_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  rw [cc1__dense_body_eq_skeleton]; unfold cc1__dense_body_skel
  rw [k1_part1_eq_skeleton, k1_part2_eq_skeleton]; unfold k1_part1_skel k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  refine (View.read_writes_eq_canon _ _ _ (fun y => ⟨_, List.mem_singleton_self _, View.mem_set_unit_zero zero_off inb_S1024x1_S1024x1_0_0 y⟩)).trans ?_
  refine (View.canon_unit_zero zero_off _ _).trans ?_
  unfold dense
  have h0 := zero_off
  repeat rw [load_whole _ h0]
/-! ## The pipeline's proof data, over any contents `W` of the arrays -/

variable (W : Dev nD → Valuation τ sig (Elt F))

/-- Window `w`'s block at point `t`, read off its array. -/
def blk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))
def dats (_ : Fin 1) (c : Dev nD) : Dat τ (Elt F) (HIx 1) ℕ UU ℕ cfg1 c where
  A w := W c (Proc.devRef .tc (Pipeline.arrRef spec1 w))
  after w t := match w with
    | ⟨0, _⟩ => blk1 W c 0 t
    | ⟨1, _⟩ => blk1 W c 1 t
    | ⟨2, _⟩ => blk1 W c 2 t
    | ⟨3, _⟩ => blk1 W c 3 t
    | ⟨4, _⟩ => blk1 W c 4 t
    | ⟨5, _⟩ => blk1 W c 5 t
    | ⟨6, _⟩ => blk1 W c 6 t
    | ⟨7, _⟩ => blk1 W c 7 t
    | ⟨8, _⟩ => blk1 W c 8 t
    | ⟨9, _⟩ => blk1 W c 9 t
    | ⟨10, _⟩ => blk1 W c 10 t
    | ⟨11, _⟩ => blk1 W c 11 t
    | ⟨12, _⟩ => blk1 W c 12 t
    | ⟨13, _⟩ => blk1 W c 13 t
    | ⟨14, _⟩ => blk1 W c 14 t
    | ⟨15, _⟩ => (dense (blk1 W c 0 t) (blk1 W c 1 t) (blk1 W c 2 t) (blk1 W c 3 t) (blk1 W c 4 t) (blk1 W c 5 t) (blk1 W c 6 t) (blk1 W c 7 t) (blk1 W c 8 t) (blk1 W c 9 t) (blk1 W c 10 t) (blk1 W c 11 t) (blk1 W c 12 t) (blk1 W c 13 t) (blk1 W c 14 t))
    | ⟨n + 16, h⟩ => absurd h (Nat.not_lt.2 (Nat.le_add_left _ _))
  Φ _ := Pipeline.scopedRest spec1 c
  q _ := fullShare
  owed _ := 0

theorem dats_A (c : Dev nD) (w : Fin cfg1.W) : (dats W 0 c).A w = W c (Proc.devRef .tc (Pipeline.arrRef spec1 w)) := by
  dsimp only [dats]
theorem after_0 (c : Dev nD) (t : Fin cfg1.N) : (dats W 0 c).after 0 t = blk1 W c 0 t := by dsimp only [dats]
theorem after_1 (c : Dev nD) (t : Fin cfg1.N) : (dats W 0 c).after 1 t = blk1 W c 1 t := by dsimp only [dats]
theorem after_2 (c : Dev nD) (t : Fin cfg1.N) : (dats W 0 c).after 2 t = blk1 W c 2 t := by dsimp only [dats]
theorem after_3 (c : Dev nD) (t : Fin cfg1.N) : (dats W 0 c).after 3 t = blk1 W c 3 t := by dsimp only [dats]
theorem after_4 (c : Dev nD) (t : Fin cfg1.N) : (dats W 0 c).after 4 t = blk1 W c 4 t := by dsimp only [dats]
theorem after_5 (c : Dev nD) (t : Fin cfg1.N) : (dats W 0 c).after 5 t = blk1 W c 5 t := by dsimp only [dats]
theorem after_6 (c : Dev nD) (t : Fin cfg1.N) : (dats W 0 c).after 6 t = blk1 W c 6 t := by dsimp only [dats]
theorem after_7 (c : Dev nD) (t : Fin cfg1.N) : (dats W 0 c).after 7 t = blk1 W c 7 t := by dsimp only [dats]
theorem after_8 (c : Dev nD) (t : Fin cfg1.N) : (dats W 0 c).after 8 t = blk1 W c 8 t := by dsimp only [dats]
theorem after_9 (c : Dev nD) (t : Fin cfg1.N) : (dats W 0 c).after 9 t = blk1 W c 9 t := by dsimp only [dats]
theorem after_10 (c : Dev nD) (t : Fin cfg1.N) : (dats W 0 c).after 10 t = blk1 W c 10 t := by dsimp only [dats]
theorem after_11 (c : Dev nD) (t : Fin cfg1.N) : (dats W 0 c).after 11 t = blk1 W c 11 t := by dsimp only [dats]
theorem after_12 (c : Dev nD) (t : Fin cfg1.N) : (dats W 0 c).after 12 t = blk1 W c 12 t := by dsimp only [dats]
theorem after_13 (c : Dev nD) (t : Fin cfg1.N) : (dats W 0 c).after 13 t = blk1 W c 13 t := by dsimp only [dats]
theorem after_14 (c : Dev nD) (t : Fin cfg1.N) : (dats W 0 c).after 14 t = blk1 W c 14 t := by dsimp only [dats]
theorem after_15 (c : Dev nD) (t : Fin cfg1.N) : (dats W 0 c).after 15 t = (dense (blk1 W c 0 t) (blk1 W c 1 t) (blk1 W c 2 t) (blk1 W c 3 t) (blk1 W c 4 t) (blk1 W c 5 t) (blk1 W c 6 t) (blk1 W c 7 t) (blk1 W c 8 t) (blk1 W c 9 t) (blk1 W c 10 t) (blk1 W c 11 t) (blk1 W c 12 t) (blk1 W c 13 t) (blk1 W c 14 t)) := by dsimp only [dats]

theorem before_0 (c : Dev nD) (t : Fin cfg1.N) (d) : (dats W 0 c).before 0 t d = blk1 W c 0 t :=
  ((dats W 0 c).before_in_eq_fetched 0 rfl (fun _ => rfl) (fun _ _ _ => rfl) (fun t => by rw [after_0]; unfold Dat.blockOf blk1; rw [dats_A]; try rfl) t d).trans
    (by unfold Dat.fetched Dat.blockOf blk1; rw [dats_A]; try rfl)
theorem before_1 (c : Dev nD) (t : Fin cfg1.N) (d) : (dats W 0 c).before 1 t d = blk1 W c 1 t :=
  ((dats W 0 c).before_in_eq_fetched 1 rfl (fun _ => rfl) (fun _ _ _ => rfl) (fun t => by rw [after_1]; unfold Dat.blockOf blk1; rw [dats_A]; try rfl) t d).trans
    (by unfold Dat.fetched Dat.blockOf blk1; rw [dats_A]; try rfl)
theorem before_2 (c : Dev nD) (t : Fin cfg1.N) (d) : (dats W 0 c).before 2 t d = blk1 W c 2 t :=
  ((dats W 0 c).before_in_eq_fetched 2 rfl (fun _ => rfl) (fun _ _ _ => rfl) (fun t => by rw [after_2]; unfold Dat.blockOf blk1; rw [dats_A]; try rfl) t d).trans
    (by unfold Dat.fetched Dat.blockOf blk1; rw [dats_A]; try rfl)
theorem before_3 (c : Dev nD) (t : Fin cfg1.N) (d) : (dats W 0 c).before 3 t d = blk1 W c 3 t :=
  ((dats W 0 c).before_in_eq_fetched 3 rfl (fun _ => rfl) (fun _ _ _ => rfl) (fun t => by rw [after_3]; unfold Dat.blockOf blk1; rw [dats_A]; try rfl) t d).trans
    (by unfold Dat.fetched Dat.blockOf blk1; rw [dats_A]; try rfl)
theorem before_4 (c : Dev nD) (t : Fin cfg1.N) (d) : (dats W 0 c).before 4 t d = blk1 W c 4 t :=
  ((dats W 0 c).before_in_eq_fetched 4 rfl (fun _ => rfl) (fun _ _ _ => rfl) (fun t => by rw [after_4]; unfold Dat.blockOf blk1; rw [dats_A]; try rfl) t d).trans
    (by unfold Dat.fetched Dat.blockOf blk1; rw [dats_A]; try rfl)
theorem before_5 (c : Dev nD) (t : Fin cfg1.N) (d) : (dats W 0 c).before 5 t d = blk1 W c 5 t :=
  ((dats W 0 c).before_in_eq_fetched 5 rfl (fun _ => rfl) (fun _ _ _ => rfl) (fun t => by rw [after_5]; unfold Dat.blockOf blk1; rw [dats_A]; try rfl) t d).trans
    (by unfold Dat.fetched Dat.blockOf blk1; rw [dats_A]; try rfl)
theorem before_6 (c : Dev nD) (t : Fin cfg1.N) (d) : (dats W 0 c).before 6 t d = blk1 W c 6 t :=
  ((dats W 0 c).before_in_eq_fetched 6 rfl (fun _ => rfl) (fun _ _ _ => rfl) (fun t => by rw [after_6]; unfold Dat.blockOf blk1; rw [dats_A]; try rfl) t d).trans
    (by unfold Dat.fetched Dat.blockOf blk1; rw [dats_A]; try rfl)
theorem before_7 (c : Dev nD) (t : Fin cfg1.N) (d) : (dats W 0 c).before 7 t d = blk1 W c 7 t :=
  ((dats W 0 c).before_in_eq_fetched 7 rfl (fun _ => rfl) (fun _ _ _ => rfl) (fun t => by rw [after_7]; unfold Dat.blockOf blk1; rw [dats_A]; try rfl) t d).trans
    (by unfold Dat.fetched Dat.blockOf blk1; rw [dats_A]; try rfl)
theorem before_8 (c : Dev nD) (t : Fin cfg1.N) (d) : (dats W 0 c).before 8 t d = blk1 W c 8 t :=
  ((dats W 0 c).before_in_eq_fetched 8 rfl (fun _ => rfl) (fun _ _ _ => rfl) (fun t => by rw [after_8]; unfold Dat.blockOf blk1; rw [dats_A]; try rfl) t d).trans
    (by unfold Dat.fetched Dat.blockOf blk1; rw [dats_A]; try rfl)
theorem before_9 (c : Dev nD) (t : Fin cfg1.N) (d) : (dats W 0 c).before 9 t d = blk1 W c 9 t :=
  ((dats W 0 c).before_in_eq_fetched 9 rfl (fun _ => rfl) (fun _ _ _ => rfl) (fun t => by rw [after_9]; unfold Dat.blockOf blk1; rw [dats_A]; try rfl) t d).trans
    (by unfold Dat.fetched Dat.blockOf blk1; rw [dats_A]; try rfl)
theorem before_10 (c : Dev nD) (t : Fin cfg1.N) (d) : (dats W 0 c).before 10 t d = blk1 W c 10 t :=
  ((dats W 0 c).before_in_eq_fetched 10 rfl (fun _ => rfl) (fun _ _ _ => rfl) (fun t => by rw [after_10]; unfold Dat.blockOf blk1; rw [dats_A]; try rfl) t d).trans
    (by unfold Dat.fetched Dat.blockOf blk1; rw [dats_A]; try rfl)
theorem before_11 (c : Dev nD) (t : Fin cfg1.N) (d) : (dats W 0 c).before 11 t d = blk1 W c 11 t :=
  ((dats W 0 c).before_in_eq_fetched 11 rfl (fun _ => rfl) (fun _ _ _ => rfl) (fun t => by rw [after_11]; unfold Dat.blockOf blk1; rw [dats_A]; try rfl) t d).trans
    (by unfold Dat.fetched Dat.blockOf blk1; rw [dats_A]; try rfl)
theorem before_12 (c : Dev nD) (t : Fin cfg1.N) (d) : (dats W 0 c).before 12 t d = blk1 W c 12 t :=
  ((dats W 0 c).before_in_eq_fetched 12 rfl (fun _ => rfl) (fun _ _ _ => rfl) (fun t => by rw [after_12]; unfold Dat.blockOf blk1; rw [dats_A]; try rfl) t d).trans
    (by unfold Dat.fetched Dat.blockOf blk1; rw [dats_A]; try rfl)
theorem before_13 (c : Dev nD) (t : Fin cfg1.N) (d) : (dats W 0 c).before 13 t d = blk1 W c 13 t :=
  ((dats W 0 c).before_in_eq_fetched 13 rfl (fun _ => rfl) (fun _ _ _ => rfl) (fun t => by rw [after_13]; unfold Dat.blockOf blk1; rw [dats_A]; try rfl) t d).trans
    (by unfold Dat.fetched Dat.blockOf blk1; rw [dats_A]; try rfl)
theorem before_14 (c : Dev nD) (t : Fin cfg1.N) (d) : (dats W 0 c).before 14 t d = blk1 W c 14 t :=
  ((dats W 0 c).before_in_eq_fetched 14 rfl (fun _ => rfl) (fun _ _ _ => rfl) (fun t => by rw [after_14]; unfold Dat.blockOf blk1; rw [dats_A]; try rfl) t d).trans
    (by unfold Dat.fetched Dat.blockOf blk1; rw [dats_A]; try rfl)

/-! ## The body obligation -/

def bodyPre (c : Dev nD) (t : Fin cfg1.N) : sProp 𝕄 :=
  iprop((dats W 0 c).Φ t.castSucc ∗ (dats W 0 c).owesAt none t.castSucc
    ∗ (∃ d, owns (c : Thread nD τ) (st1_0 t) fullShare ((dats W 0 c).before 0 t d))
    ∗ (∃ d, owns (c : Thread nD τ) (st1_1 t) fullShare ((dats W 0 c).before 1 t d))
    ∗ (∃ d, owns (c : Thread nD τ) (st1_2 t) fullShare ((dats W 0 c).before 2 t d))
    ∗ (∃ d, owns (c : Thread nD τ) (st1_3 t) fullShare ((dats W 0 c).before 3 t d))
    ∗ (∃ d, owns (c : Thread nD τ) (st1_4 t) fullShare ((dats W 0 c).before 4 t d))
    ∗ (∃ d, owns (c : Thread nD τ) (st1_5 t) fullShare ((dats W 0 c).before 5 t d))
    ∗ (∃ d, owns (c : Thread nD τ) (st1_6 t) fullShare ((dats W 0 c).before 6 t d))
    ∗ (∃ d, owns (c : Thread nD τ) (st1_7 t) fullShare ((dats W 0 c).before 7 t d))
    ∗ (∃ d, owns (c : Thread nD τ) (st1_8 t) fullShare ((dats W 0 c).before 8 t d))
    ∗ (∃ d, owns (c : Thread nD τ) (st1_9 t) fullShare ((dats W 0 c).before 9 t d))
    ∗ (∃ d, owns (c : Thread nD τ) (st1_10 t) fullShare ((dats W 0 c).before 10 t d))
    ∗ (∃ d, owns (c : Thread nD τ) (st1_11 t) fullShare ((dats W 0 c).before 11 t d))
    ∗ (∃ d, owns (c : Thread nD τ) (st1_12 t) fullShare ((dats W 0 c).before 12 t d))
    ∗ (∃ d, owns (c : Thread nD τ) (st1_13 t) fullShare ((dats W 0 c).before 13 t d))
    ∗ (∃ d, owns (c : Thread nD τ) (st1_14 t) fullShare ((dats W 0 c).before 14 t d))
    ∗ (∃ d, owns (c : Thread nD τ) (st1_15 t) fullShare ((dats W 0 c).before 15 t d)))

def bodyPost (c : Dev nD) (t : Fin cfg1.N) : sProp 𝕄 :=
  iprop((dats W 0 c).Φ t.succ ∗ (dats W 0 c).owesAt none t.succ
    ∗ owns (c : Thread nD τ) (st1_0 t) fullShare ((dats W 0 c).after 0 t)
    ∗ owns (c : Thread nD τ) (st1_1 t) fullShare ((dats W 0 c).after 1 t)
    ∗ owns (c : Thread nD τ) (st1_2 t) fullShare ((dats W 0 c).after 2 t)
    ∗ owns (c : Thread nD τ) (st1_3 t) fullShare ((dats W 0 c).after 3 t)
    ∗ owns (c : Thread nD τ) (st1_4 t) fullShare ((dats W 0 c).after 4 t)
    ∗ owns (c : Thread nD τ) (st1_5 t) fullShare ((dats W 0 c).after 5 t)
    ∗ owns (c : Thread nD τ) (st1_6 t) fullShare ((dats W 0 c).after 6 t)
    ∗ owns (c : Thread nD τ) (st1_7 t) fullShare ((dats W 0 c).after 7 t)
    ∗ owns (c : Thread nD τ) (st1_8 t) fullShare ((dats W 0 c).after 8 t)
    ∗ owns (c : Thread nD τ) (st1_9 t) fullShare ((dats W 0 c).after 9 t)
    ∗ owns (c : Thread nD τ) (st1_10 t) fullShare ((dats W 0 c).after 10 t)
    ∗ owns (c : Thread nD τ) (st1_11 t) fullShare ((dats W 0 c).after 11 t)
    ∗ owns (c : Thread nD τ) (st1_12 t) fullShare ((dats W 0 c).after 12 t)
    ∗ owns (c : Thread nD τ) (st1_13 t) fullShare ((dats W 0 c).after 13 t)
    ∗ owns (c : Thread nD τ) (st1_14 t) fullShare ((dats W 0 c).after 14 t)
    ∗ owns (c : Thread nD τ) (st1_15 t) fullShare ((dats W 0 c).after 15 t))

theorem dense_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1, before_2, before_3, before_4, before_5, before_6, before_7, before_8, before_9, before_10, before_11, before_12, before_13, before_14]
  rw [show (dats W 0 c).Φ t.succ = (dats W 0 c).Φ t.castSucc from rfl,
    show (dats W 0 c).owesAt none t.succ = (dats W 0 c).owesAt none t.castSucc from rfl,
    after_0, after_1, after_2, after_3, after_4, after_5, after_6, after_7, after_8, after_9, after_10, after_11, after_12, after_13, after_14, after_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (dense_sound c Set.univ _ _ _ _ _ _ _ _ _ _ _ _ _ _ _ _ _ _ _ _ _ _ _ _ _ _ _ _ _ _ _ _ _ (blk1 W c 0 t) (blk1 W c 1 t) (blk1 W c 2 t) (blk1 W c 3 t) (blk1 W c 4 t) (blk1 W c 5 t) (blk1 W c 6 t) (blk1 W c 7 t) (blk1 W c 8 t) (blk1 W c 9 t) (blk1 W c 10 t) (blk1 W c 11 t) (blk1 W c 12 t) (blk1 W c 13 t) (blk1 W c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem defs₀_row (t : Fin cfg1.N) :
    defs₀ (F := F) .tc cfg1.body (cfg1.bodyArgs t (cfg1.slots t)) = bodyAt1 t := by
  rfl

theorem body_obligation (c : Dev nD) : BodyObligation (dats W 0 c) (defs₀ (F := F)) Variants.none none Set.univ := fun t => by
  rw [bigSep_W1, bigSep_W1, defs₀_row]
  exact triple_restated (dense_body W c t) rfl .rfl fun _ => .rfl

end Cert.Proof.Run

end
-- ==== Proof.Ops.lean ====
/-
  The host operations of the program before the SparseCore call (`opsA`) and between it and the TensorCore call (`opsB`), and the program
  as these two lines around the two calls.
-/
module

public import proofs.«01_k».proof.Proof.Setup
public import Idealize.ShloMosaic.Lib.Pipeline.Frame

@[expose] public section

set_option maxRecDepth 16384

noncomputable section

namespace Cert.Proof.Run

open Cert.KernelIdeal Cert.KernelIdeal.Gen

open Idealize.ShloMosaic Idealize.ShloMosaic.TcCoe Idealize.SL.Sem Idealize.ShloMosaic.StableHlo

variable {F : FTy → Type} [FloatOps F]

/-- The operations before the SparseCore call. -/
abbrev opsA : List (HloOp τ sig (Elt F)) :=
  [ nullary main_v0 (iotaInDim S26 32 0),
    nullary main_c (constantI S_ 32 100000#32),
    unary main_c main_v1 (broadcastInDim S26 ![] bcast_S_S26 : (⟨S_, .i32⟩ : BufTy).Contents (Elt F) → (⟨S26, .i32⟩ : BufTy).Contents (Elt F)),
    binary main_v0 main_v1 main_v2 (muli : (⟨S26, .i32⟩ : BufTy).Contents (Elt F) → (⟨S26, .i32⟩ : BufTy).Contents (Elt F) → (⟨S26, .i32⟩ : BufTy).Contents (Elt F)),
    unary main_v2 main_v3 (broadcastInDim S1x26 ![1] bcast_S26_S1x26_1 : (⟨S26, .i32⟩ : BufTy).Contents (Elt F) → (⟨S1x26, .i32⟩ : BufTy).Contents (Elt F)),
    unary main_v3 main_v4 (broadcastInDim S16384x26 ![0, 1] bcast_S1x26_S16384x26_0_1 : (⟨S1x26, .i32⟩ : BufTy).Contents (Elt F) → (⟨S16384x26, .i32⟩ : BufTy).Contents (Elt F)),
    binary main_arg0 main_v4 main_v5 (addi : (⟨S16384x26, .i32⟩ : BufTy).Contents (Elt F) → (⟨S16384x26, .i32⟩ : BufTy).Contents (Elt F) → (⟨S16384x26, .i32⟩ : BufTy).Contents (Elt F)),
    reshape main_v5 main_v6 (rfl : (.i32 : EltTy) = .i32) shapeCasts_S16384x26_S425984,
    reshape main_arg2 main_v7 (rfl : (.f32 : EltTy) = .f32) shapeCasts_S26x100000x16_S2600000x16 ]

/-- The operations between the two calls. -/
abbrev opsB : List (HloOp τ sig (Elt F)) :=
  [ reshape main_v8 main_v9 (rfl : (.f32 : EltTy) = .f32) shapeCasts_S425984x16_S16384x416,
    nullary main_c_0 (constantI S_ 32 0#32),
    TRef.unary (TRef.of (T := ⟨S_, .i32⟩) main_c_0) (TRef.of (T := ⟨S_, .f32⟩) main_call0_v0) (sitofp .f32),
    TRef.binary (TRef.of (T := ⟨S16384x13, .f32⟩) main_arg1) (TRef.of (T := ⟨S_, .f32⟩) main_call0_v0) (TRef.of (T := ⟨S16384x16, .f32⟩) main_v10) (fun x v => pad S16384x16 ![0, 0] ![0, 3] ![0, 0] x v pads_S16384x13_S16384x16_000_030 h_S_),
    unary main_arg6 main_v11 ((extractStridedSlice S416x256 ![0, 0] · slices_S429x256_S416x256_0_0) : (⟨S429x256, .f32⟩ : BufTy).Contents (Elt F) → (⟨S416x256, .f32⟩ : BufTy).Contents (Elt F)),
    unary main_arg6 main_v12 ((extractStridedSlice S13x256 ![416, 0] · slices_S429x256_S13x256_416_0) : (⟨S429x256, .f32⟩ : BufTy).Contents (Elt F) → (⟨S13x256, .f32⟩ : BufTy).Contents (Elt F)),
    nullary main_c_1 (constantI S_ 32 0#32),
    TRef.unary (TRef.of (T := ⟨S_, .i32⟩) main_c_1) (TRef.of (T := ⟨S_, .f32⟩) main_call1_v0) (sitofp .f32),
    TRef.binary (TRef.of (T := ⟨S13x256, .f32⟩) main_v12) (TRef.of (T := ⟨S_, .f32⟩) main_call1_v0) (TRef.of (T := ⟨S16x256, .f32⟩) main_v13) (fun x v => pad S16x256 ![0, 0] ![3, 0] ![0, 0] x v pads_S13x256_S16x256_030_000 h_S_),
    unary main_arg3 main_v14 ((extractStridedSlice S416x1 ![0, 0] · slices_S429x1_S416x1_0_0) : (⟨S429x1, .f32⟩ : BufTy).Contents (Elt F) → (⟨S416x1, .f32⟩ : BufTy).Contents (Elt F)),
    reshape main_v14 main_v15 (rfl : (.f32 : EltTy) = .f32) shapeCasts_S416x1_S416,
    unary main_v15 main_v16 (broadcastInDim S1x416 ![1] bcast_S416_S1x416_1 : (⟨S416, .f32⟩ : BufTy).Contents (Elt F) → (⟨S1x416, .f32⟩ : BufTy).Contents (Elt F)),
    unary main_arg3 main_v17 ((extractStridedSlice S13x1 ![416, 0] · slices_S429x1_S13x1_416_0) : (⟨S429x1, .f32⟩ : BufTy).Contents (Elt F) → (⟨S13x1, .f32⟩ : BufTy).Contents (Elt F)),
    reshape main_v17 main_v18 (rfl : (.f32 : EltTy) = .f32) shapeCasts_S13x1_S13,
    nullary main_c_2 (constantI S_ 32 0#32),
    TRef.unary (TRef.of (T := ⟨S_, .i32⟩) main_c_2) (TRef.of (T := ⟨S_, .f32⟩) main_call2_v0) (sitofp .f32),
    TRef.binary (TRef.of (T := ⟨S13, .f32⟩) main_v18) (TRef.of (T := ⟨S_, .f32⟩) main_call2_v0) (TRef.of (T := ⟨S16, .f32⟩) main_v19) (fun x v => pad S16 ![0] ![3] ![0] x v pads_S13_S16_030 h_S_),
    unary main_v19 main_v20 (broadcastInDim S1x16 ![1] bcast_S16_S1x16_1 : (⟨S16, .f32⟩ : BufTy).Contents (Elt F) → (⟨S1x16, .f32⟩ : BufTy).Contents (Elt F)),
    unary main_arg5 main_v21 ((extractStridedSlice S416x16 ![0, 0] · slices_S429x16_S416x16_0_0) : (⟨S429x16, .f32⟩ : BufTy).Contents (Elt F) → (⟨S416x16, .f32⟩ : BufTy).Contents (Elt F)),
    unary main_arg5 main_v22 ((extractStridedSlice S13x16 ![416, 0] · slices_S429x16_S13x16_416_0) : (⟨S429x16, .f32⟩ : BufTy).Contents (Elt F) → (⟨S13x16, .f32⟩ : BufTy).Contents (Elt F)),
    nullary main_c_3 (constantI S_ 32 0#32),
    TRef.unary (TRef.of (T := ⟨S_, .i32⟩) main_c_3) (TRef.of (T := ⟨S_, .f32⟩) main_call3_v0) (sitofp .f32),
    TRef.binary (TRef.of (T := ⟨S13x16, .f32⟩) main_v22) (TRef.of (T := ⟨S_, .f32⟩) main_call3_v0) (TRef.of (T := ⟨S16x16, .f32⟩) main_v23) (fun x v => pad S16x16 ![0, 0] ![3, 0] ![0, 0] x v pads_S13x16_S16x16_030_000 h_S_),
    binary main_v21 main_v21 main_v24 (mulf : (⟨S416x16, .f32⟩ : BufTy).Contents (Elt F) → (⟨S416x16, .f32⟩ : BufTy).Contents (Elt F) → (⟨S416x16, .f32⟩ : BufTy).Contents (Elt F)),
    binary main_v23 main_v23 main_v25 (mulf : (⟨S16x16, .f32⟩ : BufTy).Contents (Elt F) → (⟨S16x16, .f32⟩ : BufTy).Contents (Elt F) → (⟨S16x16, .f32⟩ : BufTy).Contents (Elt F)),
    reshape main_arg10 main_v26 (rfl : (.f32 : EltTy) = .f32) shapeCasts_S128x1_S128,
    unary main_v26 main_v27 (broadcastInDim S1x128 ![1] bcast_S128_S1x128_1 : (⟨S128, .f32⟩ : BufTy).Contents (Elt F) → (⟨S1x128, .f32⟩ : BufTy).Contents (Elt F)),
    unary main_arg7 main_v28 (broadcastInDim S1x256 ![1] bcast_S256_S1x256_1 : (⟨S256, .f32⟩ : BufTy).Contents (Elt F) → (⟨S1x256, .f32⟩ : BufTy).Contents (Elt F)),
    unary main_arg9 main_v29 (broadcastInDim S1x128 ![1] bcast_S128_S1x128_1 : (⟨S128, .f32⟩ : BufTy).Contents (Elt F) → (⟨S1x128, .f32⟩ : BufTy).Contents (Elt F)),
    binary main_arg4 main_arg11 main_v30 (addf : (⟨S1, .f32⟩ : BufTy).Contents (Elt F) → (⟨S1, .f32⟩ : BufTy).Contents (Elt F) → (⟨S1, .f32⟩ : BufTy).Contents (Elt F)),
    reshape main_v30 main_v31 (rfl : (.f32 : EltTy) = .f32) shapeCasts_S1_S1x1 ]

/-- What each line writes. -/
abbrev outsA : List (Ref sig .tc) := [main_v0, main_c, main_v1, main_v2, main_v3, main_v4, main_v5, main_v6, main_v7]
abbrev outsB : List (Ref sig .tc) := [main_v9, main_c_0, main_call0_v0, main_v10, main_v11, main_v12, main_c_1, main_call1_v0, main_v13, main_v14, main_v15, main_v16, main_v17, main_v18, main_c_2, main_call2_v0, main_v19, main_v20, main_v21, main_v22, main_c_3, main_call3_v0, main_v23, main_v24, main_v25, main_v26, main_v27, main_v28, main_v29, main_v30, main_v31]

theorem opsA_sub : (opsA : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., reshape_bufs_sub .., reshape_bufs_sub ..⟩

theorem opsB_sub : (opsB : List (HloOp τ sig (Elt F))).Forall fun op => op.bufs ⊆ tcRefs τ sig :=
  ⟨reshape_bufs_sub .., nullary_bufs_sub .., unary_bufs_sub .., binary_bufs_sub .., unary_bufs_sub .., unary_bufs_sub .., nullary_bufs_sub .., unary_bufs_sub .., binary_bufs_sub .., unary_bufs_sub .., reshape_bufs_sub .., unary_bufs_sub .., unary_bufs_sub .., reshape_bufs_sub .., nullary_bufs_sub .., unary_bufs_sub .., binary_bufs_sub .., unary_bufs_sub .., unary_bufs_sub .., unary_bufs_sub .., nullary_bufs_sub .., unary_bufs_sub .., binary_bufs_sub .., binary_bufs_sub .., binary_bufs_sub .., reshape_bufs_sub .., unary_bufs_sub .., unary_bufs_sub .., unary_bufs_sub .., binary_bufs_sub .., reshape_bufs_sub ..⟩

theorem opsA_uc : ∀ op ∈ (opsA : List (HloOp τ sig (Elt F))), op.bufs ⊆ Pipeline.ucRefs τ sig :=
  fun op h => Pipeline.sub_ucRefs op (List.forall_iff_forall_mem.mp opsA_sub op h)

theorem opsB_uc : ∀ op ∈ (opsB : List (HloOp τ sig (Elt F))), op.bufs ⊆ Pipeline.ucRefs τ sig :=
  fun op h => Pipeline.sub_ucRefs op (List.forall_iff_forall_mem.mp opsB_sub op h)

theorem opsA_fresh : ∀ op ∈ (opsA : List (HloOp τ sig (Elt F))), op.fresh = ∅ := by
  intro op h; fin_cases h <;> rfl

theorem opsB_fresh : ∀ op ∈ (opsB : List (HloOp τ sig (Elt F))), op.fresh = ∅ := by
  intro op h; fin_cases h <;> rfl

/-- The TensorCore call. -/
abbrev denseCall : Prog (TpuEff nD τ sig (Elt F) (SparseCore.Sig (ΛP (F := F)) 1) .tc) PUnit :=
  Prog.lift (.customCall (SparseCore.inner (Pipeline.entry 0)) ())

set_option maxHeartbeats 4000000 in
/-- The program. -/
theorem main_eq (d : Dev nD) : main (F := F) d
    = (seq opsA >>= fun _ => (K (F := F)).run d 0 >>= fun _ => seq opsB >>= fun _ => denseCall >>= fun _ => pure ⟨⟩) := rfl

end Cert.Proof.Run

end
-- ==== Proof.Run.lean ====
/-
  The run: the operations before the SparseCore call, the call, the operations after it, the TensorCore call. From any launch memory
  whose row numbers are in range, every schedule ends with every array at a named valuation (`VF`) and all counters at zero.
-/
module

public import proofs.«01_k».proof.Proof.Body
public import proofs.«01_k».proof.Proof.Split
public import proofs.«01_k».proof.Proof.Dense
public import proofs.«01_k».proof.Proof.Ops
public import Idealize.ShloMosaic.Lib.Pipeline.Regions
public import Idealize.ShloMosaic.Lib.Pipeline.RegionArraysS
public import Idealize.ShloMosaic.Lib.Pipeline.FrameTail
public import Idealize.ShloMosaic.Lib.SparseCore.Threads

@[expose] public section

set_option maxRecDepth 16384

noncomputable section

namespace Cert.Proof.Run

open Cert.KernelIdeal Cert.KernelIdeal.Gen

open Idealize.ShloMosaic Idealize.ShloMosaic.TcCoe
open Idealize.ShloMosaic.StableHlo (held after seq wp_seq held_sub_split held_congr)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (ucRefs arrRefs RegionSeg LevelCut cellsGhost toksInit afterRegion)

variable {F : FTy → Type} [FloatOps F]

local notation "𝕄" => MT nD τ sig (HIx 1) (Elt F) ℕ UU ℕ

/-! ## What the arrays hold, step by step -/

section Valuations
variable (m : (ℓ : Loc nD τ sig) → Buf (Elt F) ℓ)

/-- At launch. -/
def V0 (d : Dev nD) : Valuation τ sig (Elt F) := fun b => m (d, b)
/-- Before the SparseCore call. -/
def VA (d : Dev nD) : Valuation τ sig (Elt F) := after opsA (V0 m d)

/-- The three arrays as the SparseCore call finds them. -/
def ins : Ins F where
  I d := VA m d (Proc.devRef .tc main_v6)
  X d := VA m d (Proc.devRef .tc main_v7)
  O d := VA m d (Proc.devRef .tc main_v8)

/-- After it: the output array holds the rows named. -/
def V1 (d : Dev nD) : Valuation τ sig (Elt F) := Function.update (VA m d) (Proc.devRef .tc main_v8) (rows (ins m) d)
/-- Before the TensorCore call. -/
def V2 (d : Dev nD) : Valuation τ sig (Elt F) := after opsB (V1 m d)
/-- At the end. -/
def VF (d : Dev nD) : Valuation τ sig (Elt F) := afterRegion (dats (V2 m) 0 d) (V2 m d)

end Valuations

/-! ## The three arrays of the SparseCore call, out of the unscoped ones and back -/

/-- Its three arrays, as device buffers. -/
def three : Finset (DevRef τ sig) := {Proc.devRef .tc main_v6, Proc.devRef .tc main_v7, Proc.devRef .tc main_v8}

theorem three_sub : three ⊆ ucRefs τ sig := by
  intro b hb
  simp only [three, Finset.mem_insert, Finset.mem_singleton] at hb
  rcases hb with rfl | rfl | rfl <;> exact Pipeline.devRef_mem_ucRefs rfl

theorem held_three (d : Dev nD) (W : Valuation τ sig (Elt F)) :
    (held (d.tc : Thread nD τ) three W : sProp 𝕄)
      = iprop((iLoc d ↦{fullShare} W (Proc.devRef .tc main_v6)) ∗ (xLoc d ↦{fullShare} W (Proc.devRef .tc main_v7))
          ∗ (oLoc d ↦{fullShare} W (Proc.devRef .tc main_v8))) := by
  unfold held three
  rw [SparseCore.bigSep_insert' (by decide), SparseCore.bigSep_insert' (by decide), bigSep_singleton]

theorem ne_v8_v6 : (Proc.devRef .tc main_v6 : DevRef τ sig) ≠ Proc.devRef .tc main_v8 := by decide
theorem ne_v8_v7 : (Proc.devRef .tc main_v7 : DevRef τ sig) ≠ Proc.devRef .tc main_v8 := by decide

/-- After the call: the arrays back together. -/
theorem held_back (m : (ℓ : Loc nD τ sig) → Buf (Elt F) ℓ) (d : Dev nD) :
    iprop(((iLoc d ↦{fullShare} (ins m).I d) ∗ (xLoc d ↦{fullShare} (ins m).X d) ∗ (oLoc d ↦{fullShare} rows (ins m) d))
        ∗ held (d.tc : Thread nD τ) (ucRefs τ sig \ three) (VA m d))
      ⊢ (held (d.tc : Thread nD τ) (ucRefs τ sig) (V1 m d) : sProp 𝕄) := by
  rw [held_sub_split (d.tc : Thread nD τ) three_sub (V1 m d), held_three,
    held_congr (d.tc : Thread nD τ) (S := ucRefs τ sig \ three) (V := V1 m d) (V' := VA m d) (fun b hb => by
      refine Function.update_of_ne (fun e => ?_) _ _
      rw [Finset.mem_sdiff] at hb
      exact hb.2 (by rw [e]; simp only [three, Finset.mem_insert, Finset.mem_singleton, or_true]))]
  unfold V1
  rw [Function.update_of_ne ne_v8_v6, Function.update_of_ne ne_v8_v7, Function.update_self]
  exact .rfl

/-! ## The TensorCore call's record -/

/-- No pipeline here prefetches: the one admissible contents. -/
abbrev adm : (p : Fin 1) → (pcfgs (F := F) p).Adm := fun p => (cfgs p).toPCfg_adm

/-- The staging cells' ghost state at launch. -/
def ghost (d : Dev nD) : sProp 𝕄 :=
  iprop(cellsGhost (Pipeline.pin (pcfgs (F := F)) adm) (EP (F := F)) (0 : Fin 1) d ∗ toksInit (Pipeline.pin (pcfgs (F := F)) adm) (EP (F := F)) (0 : Fin 1) d)

section Region
variable (W : Dev nD → Valuation τ sig (Elt F))

theorem cut : LevelCut (nD := nD) (pcfgs (F := F)) adm (none : HIx 1) (K (F := F)).L (K (F := F)).lev (0 : Fin 1) (fun _ => 0) (fun _ => 0) where
  hι _ _ _ := Finset.mem_univ _
  hιb _ _ _ := le_rfl
  hD _ _ _ h := absurd h (Nat.lt_irrefl 0)

theorem arr_entry (c : Dev nD) (w : Fin cfg1.W) : (dats W 0 c).arrAt w 0 = W c (Proc.devRef .tc (Pipeline.arrRef spec1 w)) := dats_A W c w

theorem seg_body (c : Dev nD) :
    Pipeline.BodyObligationLoose (cfg := Pipeline.pin (pcfgs (F := F)) adm 0) (dats W 0 c) (defs₀ (F := F)) 𝒱₀ (none : HIx 1) Set.univ :=
  (body_obligation W c).loose

theorem seg_share (c : Dev nD) (w : Fin (Pipeline.pin (pcfgs (F := F)) adm 0).W) : (dats W 0 c).share w = fullShare :=
  (dats W 0 c).share_full (fun _ => rfl) w

theorem dats_rest (c : Dev nD) (t : Fin (cfg1.N + 1)) : ((dats W 0 c).Φ t : sProp 𝕄) = Pipeline.scopedRest spec1 c := by dsimp only [dats]

theorem seg_in (c : Dev nD) :
    iprop(Pipeline.scopedRest (Pipeline.pin (pcfgs (F := F)) adm 0).spec c ∗ emp) ⊢ ((dats W 0 c).Φ 0 : sProp 𝕄) := by
  rw [dats_rest]
  change iprop(Pipeline.scopedRest spec1 c ∗ emp) ⊢ (Pipeline.scopedRest spec1 c : sProp 𝕄)
  generalize (Pipeline.scopedRest spec1 c : sProp 𝕄) = R
  exact sep_elim_left

theorem seg_out (c : Dev nD) :
    ((dats W 0 c).Φ (Fin.last (Pipeline.pin (pcfgs (F := F)) adm 0).N) : sProp 𝕄)
      ⊢ iprop(Pipeline.scopedRest (Pipeline.pin (pcfgs (F := F)) adm 0).spec c ∗ emp) := by
  rw [dats_rest]
  change (Pipeline.scopedRest spec1 c : sProp 𝕄) ⊢ iprop(Pipeline.scopedRest spec1 c ∗ emp)
  generalize (Pipeline.scopedRest spec1 c : sProp 𝕄) = R
  exact sep_emp_intro

/-- The TensorCore call over any contents of its arrays. -/
def seg : RegionSeg (pcfgs (F := F)) adm (dats W) (none : HIx 1) (defs₀ (F := F)) 𝒱₀ (K (F := F)).L (K (F := F)).lev (0 : Fin 1) :=
  RegionSeg.ofHeldIn (pcfgs (F := F)) adm (dats W) (none : HIx 1) (defs₀ (F := F)) 𝒱₀ (K (F := F)).L (K (F := F)).lev (0 : Fin 1)
    (fun _ => 0) (ucRefs τ sig) (fun _ => iprop(emp)) (fun _ => iprop(emp)) launch1.toP rfl
    (seg_body W) (fun _ _ => rfl) (fun _ => rfl) (seg_share W) (seg_in W) (seg_out W)
    (fun _ => (0 : ℕ)) (cut (F := F)) (fun _ => iprop(emp)) W (arr_entry W)

theorem arrs_sub : arrRefs (pcfgs (F := F) 0).spec ⊆ ucRefs τ sig :=
  Pipeline.arrRefs_sub_ucRefs _ fun w => by fin_cases w <;> rfl

theorem seg_pre (d : Dev nD) :
    iprop(held (d.tc : Thread nD τ) (ucRefs τ sig) (W d) ∗ (∃ Wd, owes (d.tc : Thread nD τ) 0 Wd)) ⊢ ((seg W).pre d : sProp 𝕄) := by
  have h := RegionSeg.ofHeldIn_pre (pcs := pcfgs (F := F)) (a := adm) (pdats := dats W) (ι := (none : HIx 1)) (defs₀ := defs₀ (F := F)) (𝒱₀ := 𝒱₀)
    (L := (K (F := F)).L) (lv := (K (F := F)).lev) (p := (0 : Fin 1)) (D := fun _ => 0) (S := ucRefs τ sig) (arrs_sub (F := F))
    (X := fun _ => iprop(emp)) (Y := fun _ => iprop(emp)) (kit := launch1.toP) (hK := rfl)
    (hbody := seg_body W) (howed := fun _ _ => rfl) (hrec := fun _ => rfl) (hshare := seg_share W) (hin := seg_in W) (hout := seg_out W)
    (b := fun _ => (0 : ℕ)) (hcut := cut (F := F)) (R := fun _ => iprop(emp)) (W := W) (hW := arr_entry W) d
  refine BIBase.Entails.trans ?_ h
  iintro ⟨Hh, HO⟩
  isplitl [Hh]; · iexact Hh
  isplitl [HO]; · iexact HO
  isplitr <;> iempintro

theorem seg_post (d : Dev nD) :
    ((seg W).post d : sProp 𝕄) ⊢ iprop(held (d.tc : Thread nD τ) (ucRefs τ sig) (afterRegion (dats W 0 d) (W d)) ∗ (∃ Wd, owes (d.tc : Thread nD τ) 0 Wd)) := by
  have h := RegionSeg.ofHeldIn_post (pcs := pcfgs (F := F)) (a := adm) (pdats := dats W) (ι := (none : HIx 1)) (defs₀ := defs₀ (F := F)) (𝒱₀ := 𝒱₀)
    (L := (K (F := F)).L) (lv := (K (F := F)).lev) (p := (0 : Fin 1)) (D := fun _ => 0) (S := ucRefs τ sig) (arrs_sub (F := F))
    (X := fun _ => iprop(emp)) (Y := fun _ => iprop(emp)) (kit := launch1.toP) (hK := rfl)
    (hbody := seg_body W) (howed := fun _ _ => rfl) (hrec := fun _ => rfl) (hshare := seg_share W) (hin := seg_in W) (hout := seg_out W)
    (b := fun _ => (0 : ℕ)) (hcut := cut (F := F)) (R := fun _ => iprop(emp)) (W := W) (hW := arr_entry W) d
  refine BIBase.Entails.trans h ?_
  iintro ⟨Hh, HO, -, -⟩
  isplitl [Hh]; · iexact Hh
  iexact HO

/-- The call as the pipeline's own program has it. -/
abbrev entryCall : Prog (TpuEff nD τ sig (Elt F) (ΛP (F := F)) .tc) PUnit := .op (.customCall (Pipeline.entry (0 : Fin 1)) ()) .ret

theorem denseCall_eq : denseCall (F := F) = SparseCore.liftProg (entryCall (F := F)) := rfl

/-- The TensorCore call, run from all unscoped arrays at `W d`. -/
theorem dense_call (d : Dev nD) :
    iprop(levAts (K (F := F)).L (K (F := F)).lev ∗ ghost d ∗ boundary (d.tc : Thread nD τ) ∗ held (d.tc : Thread nD τ) (ucRefs τ sig) (W d)
        ∗ (∃ Wd, owes (d.tc : Thread nD τ) 0 Wd))
      ⊢ wp frame (wpE ((K (F := F)).defs (D (F := F))) 𝒱 (d.tc : Thread nD τ) none) Set.univ denseCall
          (fun _ => (iprop(boundary (d.tc : Thread nD τ) ∗ held (d.tc : Thread nD τ) (ucRefs τ sig) (afterRegion (dats W 0 d) (W d))
            ∗ (∃ Wd, owes (d.tc : Thread nD τ) 0 Wd)) : sProp 𝕄)) := by
  rw [denseCall_eq]
  refine BIBase.Entails.trans ?_ ((K (F := F)).wp_liftProg (D (F := F)) 𝒱 (d.tc : Thread nD τ) Set.univ none (entryCall (F := F)) _)
  refine BIBase.Entails.trans ?_ (RegionSeg.wp (pcfgs (F := F)) adm (dats W) (none : HIx 1) (cellOf_inj) (EP (F := F)) (defs₀ (F := F)) 𝒱₀
    (K (F := F)).L (K (F := F)).lev (seg W) d none (fun _ h => nomatch h) .ret _)
  unfold ghost
  iintro ⟨Hl, ⟨Hg, Ht⟩, Hb, Hh, HO⟩
  isplitr [Hl Hg Ht Hb Hh HO]
  · iintro ⟨Hb, Hp⟩
    ihave Hp' := (seg_post W d) $$ Hp
    icases Hp' with ⟨Hh, HO⟩
    rw [wp_ret]
    imodintro
    isplitl [Hb]; · iexact Hb
    isplitl [Hh]; · iexact Hh
    iexact HO
  isplitl [Hb]; · iexact Hb
  isplitl [Hh HO]
  · iapply (seg_pre W d)
    isplitl [Hh]; · iexact Hh
    iexact HO
  isplitl [Hl]; · iexact Hl
  isplitl [Hg]; · iexact Hg
  iexact Ht

end Region

/-! ## What the launch deals -/

/-- The staging cells' ghost state, at launch. -/
abbrev cells₀ : UP := initOf (Pipeline.cells (nD := nD) (τ := τ) (Pipeline.pin (pcfgs (F := F)) adm) cellOf_inj)
  (Pipeline.launchToks (nD := nD) (τ := τ) (Pipeline.pin (pcfgs (F := F)) adm) cellOf_inj)

/-- The certificate's ghost state at launch: the handshakes', the staging cells', no counter. -/
def u₀ : UU := (initOf (K (F := F)).hsCells (K (F := F)).hsToks,
  (cells₀ (F := F), 1))

omit [FloatOps F] in
theorem emps {I : Type} (s : Finset I) : (bigSep s fun _ => iprop(emp)) = (iprop(emp) : sProp 𝕄) := bigSep_emp_const s

theorem no_extra (n : Ins F) : (bigSep Finset.univ fun thr : Thread nD τ => bigSep Finset.univ fun q : Fin 1 => (P n).x q thr) = (iprop(emp) : sProp 𝕄) := by
  rw [show (bigSep Finset.univ fun thr : Thread nD τ => bigSep Finset.univ fun q : Fin 1 => (P (F := F) n).x q thr) = bigSep Finset.univ fun _ => iprop(emp) from
    bigSep_congr fun _ _ => bigSep_univ_of_subsingleton (0 : Fin 1), emps]

theorem fund : (BI.own (((Emb.inl : Emb UP (UP × Counters)).trans embR) (cells₀ (F := F))) : sProp 𝕄)
    ⊢ iprop(|==> bigSep Finset.univ fun d : Dev nD => ghost (F := F) d) := by
  have h := Pipeline.fund_ghost (Pipeline.pin (pcfgs (F := F)) adm) (EP (F := F)) cellOf_inj
  have e1 : (bigSep Finset.univ fun c : Dev nD => bigSep Finset.univ fun p => cellsGhost (Pipeline.pin (pcfgs (F := F)) adm) (EP (F := F)) p c)
      = bigSep Finset.univ fun c : Dev nD => cellsGhost (Pipeline.pin (pcfgs (F := F)) adm) (EP (F := F)) (0 : Fin 1) c :=
    bigSep_congr fun _ _ => bigSep_univ_of_subsingleton (0 : Fin 1)
  have e2 : (bigSep Finset.univ fun c : Dev nD => bigSep Finset.univ fun p => toksInit (Pipeline.pin (pcfgs (F := F)) adm) (EP (F := F)) p c)
      = bigSep Finset.univ fun c : Dev nD => toksInit (Pipeline.pin (pcfgs (F := F)) adm) (EP (F := F)) (0 : Fin 1) c :=
    bigSep_congr fun _ _ => bigSep_univ_of_subsingleton (0 : Fin 1)
  have e3 : (bigSep Finset.univ fun d : Dev nD => ghost (F := F) d)
      = iprop((bigSep Finset.univ fun c : Dev nD => cellsGhost (Pipeline.pin (pcfgs (F := F)) adm) (EP (F := F)) (0 : Fin 1) c)
        ∗ (bigSep Finset.univ fun c : Dev nD => toksInit (Pipeline.pin (pcfgs (F := F)) adm) (EP (F := F)) (0 : Fin 1) c)) :=
    BI.bigSep_sep Finset.univ (fun d : Dev nD => cellsGhost (Pipeline.pin (pcfgs (F := F)) adm) (EP (F := F)) (0 : Fin 1) d)
      (fun d : Dev nD => toksInit (Pipeline.pin (pcfgs (F := F)) adm) (EP (F := F)) (0 : Fin 1) d)
  rw [e1, e2, ← e3] at h
  exact h

theorem hu₀ (n : Ins F) : (ownU (u₀ (F := F)) : sProp 𝕄)
    ⊢ |={Set.univ}=> iprop(BI.own (EH (initOf (K (F := F)).hsCells (K (F := F)).hsToks)) ∗ (bigSep Finset.univ fun d : Dev nD => ghost (F := F) d)
        ∗ bigSep Finset.univ fun thr : Thread nD τ => bigSep Finset.univ fun q : Fin 1 => (P n).x q thr) := by
  rw [no_extra]
  unfold u₀
  iintro Hu
  ihave H := (ownU_pair (initOf (K (F := F)).hsCells (K (F := F)).hsToks)
    ((cells₀ (F := F), 1) : UP × Counters)) $$ Hu
  icases H with ⟨HH, HR⟩
  ihave H2 := (own_pair_emb (embR (nD := nD) (τ := τ) (sig := sig) (Ix := HIx 1) (Val := Elt F) (Name := ℕ) (Lvl := ℕ))
    (cells₀ (F := F)) (1 : Counters)) $$ HR
  icases H2 with ⟨HP, -⟩
  imod (fund (F := F)) $$ HP with Hg
  imodintro
  isplitl [HH]; · iexact HH
  isplitl [Hg]; · iexact Hg
  iempintro

/-! ## @main -/

section Main
variable (m : (ℓ : Loc nD τ sig) → Buf (Elt F) ℓ) (ρ : Dev nD → PrngReg)

/-- What a device's TensorCore ends with: every unscoped array at `VF`. -/
abbrev FIN (d : Dev nD) : sProp 𝕄 := held (d.tc : Thread nD τ) (ucRefs τ sig) (VF m d)

/-- What it owes after the one call, at any record. -/
theorem owes_back (d : Dev nD) (Wd : Waits sig (HIx 1)) : (K (F := F)).WBelow (SparseCore.T d) Wd (8 * 1) := by
  rintro ⟨s, _ | q⟩ _
  · exact Nat.zero_le _
  · exact ((K (F := F)).lev_some_le _ q).trans (by have := q.isLt; omega)

theorem run_opsA (d : Dev nD) {β : Type} (k : PUnit → Prog (TpuEff nD τ sig (Elt F) (SparseCore.Sig (ΛP (F := F)) 1) .tc) β) {Q : β → sProp 𝕄} :
    iprop(boundary (d.tc : Thread nD τ) ∗ (held (d.tc : Thread nD τ) (ucRefs τ sig) (V0 m d) : sProp 𝕄))
      ⊢ iprop(((boundary (d.tc : Thread nD τ) ∗ (held (d.tc : Thread nD τ) (ucRefs τ sig) (VA m d) : sProp 𝕄))
                -∗ wp frame (wpE ((K (F := F)).defs (D (F := F))) 𝒱 (SparseCore.T d) none) Set.univ (k ⟨⟩) Q)
        -∗ wp frame (wpE ((K (F := F)).defs (D (F := F))) 𝒱 (SparseCore.T d) none) Set.univ (seq opsA >>= k) Q) :=
  wp_seq 𝒱 none Set.univ d (ucRefs τ sig) k opsA opsA_uc opsA_fresh (V0 m d)

theorem run_opsB (d : Dev nD) {β : Type} (k : PUnit → Prog (TpuEff nD τ sig (Elt F) (SparseCore.Sig (ΛP (F := F)) 1) .tc) β) {Q : β → sProp 𝕄} :
    iprop(boundary (d.tc : Thread nD τ) ∗ (held (d.tc : Thread nD τ) (ucRefs τ sig) (V1 m d) : sProp 𝕄))
      ⊢ iprop(((boundary (d.tc : Thread nD τ) ∗ (held (d.tc : Thread nD τ) (ucRefs τ sig) (V2 m d) : sProp 𝕄))
                -∗ wp frame (wpE ((K (F := F)).defs (D (F := F))) 𝒱 (SparseCore.T d) none) Set.univ (k ⟨⟩) Q)
        -∗ wp frame (wpE ((K (F := F)).defs (D (F := F))) 𝒱 (SparseCore.T d) none) Set.univ (seq opsB >>= k) Q) :=
  wp_seq 𝒱 none Set.univ d (ucRefs τ sig) k opsB opsB_uc opsB_fresh (V1 m d)

theorem hmain (κ : GSem nD τ sig → ℕ) (d : Dev nD) :
    iprop((K (F := F)).ctx EH (P (ins m)) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  rw [main_eq]
  unfold SparseCore.Cfg.tcRes SparseCore.Cfg.tcEnd
  rw [show (unscopedBufs d (fun b => m ((SparseCore.T d).loc b)) : sProp 𝕄) = held (d.tc : Thread nD τ) (ucRefs τ sig) (V0 m d) from
    Pipeline.unscopedBufs_held d (V0 m d)]
  iintro ⟨#Hctx, Hst, ⟨Hb, Hh, Hts, -⟩, Hg⟩
  ihave #Hlev := ((K (F := F)).ctx_levAts (EH := EH) (P := P (ins m)) κ) $$ Hctx
  iapply (run_opsA m d _) $$ [Hb Hh]
  · isplitl [Hb]; · iexact Hb
    iexact Hh
  iintro ⟨Hb, Hh⟩
  ihave Hh' := (Entails.of_eq (held_sub_split (d.tc : Thread nD τ) three_sub (VA m d))) $$ Hh
  icases Hh' with ⟨H3, Hh⟩
  ihave H3' := (Entails.of_eq (held_three d (VA m d))) $$ H3
  rw [wp_bind]
  iapply ((K (F := F)).wp_run (D (F := F)) 𝒱 (EH := EH) (P := P (ins m)) κ d 0) $$ [Hst H3' Hh Hb Hts Hg]
  isplitr; · iexact Hctx
  isplitl [Hst]; · iexact Hst
  isplitl [H3']
  · iapply (start (ins m) d); iexact H3'
  iintro ⟨Hst, Hdn⟩
  ihave H3 := (finish (ins m) d) $$ Hdn
  ihave Hh := (held_back m d) $$ [H3 Hh]
  · isplitl [H3]; · iexact H3
    iexact Hh
  iapply (run_opsB m d _) $$ [Hb Hh]
  · isplitl [Hb]; · iexact Hb
    iexact Hh
  iintro ⟨Hb, Hh⟩
  unfold SparseCore.Cfg.tcSt
  icases Hst with ⟨⟨%Wd, %hWd, HO⟩, Hrest⟩
  rw [wp_bind]
  iapply (wp_wand_r Idealize.ShloMosaic.frame _ Set.univ)
  isplitl [Hg Hb Hh HO]
  · iapply (dense_call (V2 m) d)
    isplitr; · iexact Hlev
    isplitl [Hg]; · iexact Hg
    isplitl [Hb]; · iexact Hb
    isplitl [Hh]; · iexact Hh
    iexists Wd
    rw [(K (F := F)).Otc_end d (show 1 ≤ (0 : Fin 1).val + 1 from le_rfl)]
    iexact HO
  iintro %_ ⟨Hb, Hh, ⟨%Wd', HO⟩⟩
  rw [wp_pure]
  imodintro
  isplitl [HO Hrest]
  · isplitl [HO]
    · iexists Wd'
      isplitr; · ipureintro; exact owes_back d Wd'
      rw [(K (F := F)).Otc_end d (le_refl 1)]
      iexact HO
    iexact Hrest
  isplitl [Hh]; · iexact Hh
  isplitl [Hb] <;> iassumption

def fq (d : Dev nD) (s' : Phys nD τ sig (Elt F)) : Prop := ∀ b ∈ ucRefs τ sig, s'.mem.mem (d, b) = VF m d b

theorem hfin (d : Dev nD) (s' : Phys nD τ sig (Elt F)) : iprop(FIN m d ∗ SI s') ⊢ (⌜fq m d s'⌝ : sProp 𝕄) := by
  refine BIBase.Entails.trans ?_ (SI_pointsTo_bufs_agree (st := s') (c := d) (qs := fun _ => fullShare) (F := VF m d) (B := ucRefs τ sig))
  unfold FIN held
  iintro ⟨H, HSI⟩
  isplitl [HSI]; · iexact HSI
  iexact H

/-- The final state: every array at its named contents, every counter at zero. -/
def QC : PUnit × MemSt nD τ sig (Elt F) → Prop := fun r => (∀ d : Dev nD, ∀ b ∈ ucRefs τ sig, r.2.mem (d, b) = VF m d b) ∧ r.2.sem = fun _ => 0

theorem run_main [∀ e, Nonempty (Elt F e)] (hn : InRange (ins m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ins m)) (A := ∅) facts v₀
    (fun q hq => match q with | 0 => nomatch hq)
    (fun q _ => match q with | 0 => tileObl (ins m) hn)
    (fun q _ => match q with | 0 => SparseCore.Cfg.VecSplit.of_plain (vecSplit (ins m)))
    m ρ main (fun d => ghost (F := F) d) (FIN m) (u₀ (F := F)) (sep_elim_left.trans (hu₀ (ins m))) (hmain m ρ) (fq m) (hfin m) (QC m) (fun _ h hz => ⟨h, hz⟩)

/-! ## What no operation writes -/

theorem opsA_writes : (opsA (F := F)).Forall fun op => op.writes ⊆ (outsA.map (Proc.devRef (τ := τ) .tc)).toFinset :=
  StableHlo.forall_writes_sub_of_map rfl
theorem opsB_writes : (opsB (F := F)).Forall fun op => op.writes ⊆ (outsB.map (Proc.devRef (τ := τ) .tc)).toFinset :=
  StableHlo.forall_writes_sub_of_map rfl

/-- Up to the TensorCore call. -/
theorem V2_kept (d : Dev nD) (r : Ref sig .tc) (hA : r ∉ outsA) (hB : r ∉ outsB) (h8 : r ≠ main_v8) :
    V2 m d (Proc.devRef .tc r) = m (d, Proc.devRef .tc r) := by
  unfold V2
  rw [StableHlo.after_of_writes_sub opsB _ opsB_writes hB]
  unfold V1
  rw [Function.update_of_ne (fun e => h8 (Proc.devRef_injective _ e))]
  unfold VA
  rw [StableHlo.after_of_writes_sub opsA _ opsA_writes hA]
  rfl

/-- The TensorCore call's one output array is its last window's. -/
theorem out_window (w : Fin cfg1.W) (r : Ref sig .tc) (h : Pipeline.arrRef cfg1.spec w = r) (hr : r ≠ main_v32) : (cfg1.win w).isOut = false := by
  subst h
  revert hr
  fin_cases w <;> first | (intro _; rfl) | (intro h; exact absurd rfl h)

/-- An unscoped array that no operation and neither call writes ends as it began. -/
theorem VF_kept (d : Dev nD) (r : Ref sig .tc) (hA : r ∉ outsA) (hB : r ∉ outsB) (h8 : r ≠ main_v8) (hF : r ≠ main_v32) :
    VF m d (Proc.devRef .tc r) = m (d, Proc.devRef .tc r) := by
  unfold VF
  rw [Pipeline.afterRegion_keeps (dats (V2 m) 0 d) (V2 m d) winFacts1.arr_inj (fun w => dats_A (V2 m) d w) r (fun w h => out_window w r h hF)]
  exact V2_kept m d r hA hB h8

end Main

end Cert.Proof.Run

end
-- ==== Proof.Frame.lean ====
/-
  The precondition read: every row number the SparseCore call finds is a row of the table; and with it the frame claims.
-/
module

public import proofs.«01_k».proof.Proof.Run
public import proofs.«01_k».proof.Proof.Gen.Kernel
public import proofs.«01_k».proof.Proof.Gen.Pre_in_vocab
public import Idealize.ShloMosaic.Lib.ReduceAll
public import Idealize.ShloMosaic.Lib.Affine

@[expose] public section

set_option maxRecDepth 16384

noncomputable section

namespace Cert.Proof.Run

open Cert.KernelIdeal Cert.KernelIdeal.Gen

open Idealize.ShloMosaic Idealize.ShloMosaic.TcCoe
open Idealize.ShloMosaic.StableHlo
open Idealize.SL.Sem
open Idealize.ShloMosaic.Pipeline (ucRefs)

variable {F : FTy → Type} [FloatOps F]

/-! ## The row numbers and the table, as the operations before the call make them -/

section Read
variable (m : (ℓ : Loc nD τ sig) → Buf (Elt F) ℓ)

/-- The first row of each field's table. -/
def fieldBase : IVec S26 32 := muli (iotaInDim S26 32 0) (broadcastInDim S26 ![] bcast_S_S26 (constantI S_ 32 100000#32))
/-- Each category word shifted to its field's rows. -/
def rowWords (a : IVec S16384x26 32) : IVec S16384x26 32 :=
  addi a (broadcastInDim S16384x26 ![0, 1] bcast_S1x26_S16384x26_0_1 (broadcastInDim S1x26 ![1] bcast_S26_S1x26_1 fieldBase))

theorem VA_v6 (d : Dev nD) : VA m d (Proc.devRef .tc main_v6)
    = shapeCast S425984 (rowWords (m (d, Proc.devRef .tc main_arg0))) shapeCasts_S16384x26_S425984 := by
  unfold VA opsA
  after_results_simp <;> rfl

theorem VA_v7 (d : Dev nD) : VA m d (Proc.devRef .tc main_v7)
    = shapeCast S2600000x16 (m (d, Proc.devRef .tc main_arg2)) shapeCasts_S26x100000x16_S2600000x16 := by
  unfold VA opsA
  after_results_simp <;> rfl

/-- The word of entry `k`: its category plus 100000 times its field. -/
theorem rowWords_apply (a : IVec S16384x26 32) (k : S16384x26.Idx) :
    rowWords a k = a k + BitVec.ofNat 32 (k 1).val * 100000#32 := rfl

/-- Every category word is a category. -/
def Vocab (a : IVec S16384x26 32) : Prop := ∀ k, (a k).toNat < 100000

theorem rowWords_toNat (a : IVec S16384x26 32) (h : Vocab a) (k : S16384x26.Idx) :
    (rowWords a k).toNat = 100000 * (k 1).val + (a k).toNat := by
  have h1 := h k
  have h2 : (k 1).val < 26 := (k 1).isLt
  rw [rowWords_apply, BitVec.toNat_add, BitVec.toNat_mul, BitVec.toNat_ofNat, BitVec.toNat_ofNat]
  omega

theorem inRange (h : ∀ d : Dev nD, Vocab (m (d, Proc.devRef .tc main_arg0))) : InRange (ins m) := by
  intro d j
  have e : (ins m).I d j = rowWords (m (d, Proc.devRef .tc main_arg0)) (Shape.reshapeEquiv shapeCasts_S16384x26_S425984 j) :=
    congrFun (VA_v6 m d) j
  rw [show (show BitVec 32 from (ins m).I d j) = _ from e, rowWords_toNat _ (h d)]
  have h1 := h d (Shape.reshapeEquiv shapeCasts_S16384x26_S425984 j)
  have h2 : ((Shape.reshapeEquiv shapeCasts_S16384x26_S425984 j) 1).val < 26 := Fin.isLt _
  omega

end Read

/-- A word that is at least 0 and below 100000 as a signed number is below 100000. -/
theorem word_lt (v : BitVec 32) (h0 : (0#32).toInt ≤ v.toInt) (h1 : v.toInt < (100000#32).toInt) : v.toNat < 100000 := by
  have e0 : (0#32).toInt = 0 := by decide
  have e1 : (100000#32).toInt = 100000 := by decide
  have e2 := BitVec.toInt_eq_toNat_cond (x := v)
  split at e2 <;> omega

/-- The precondition's program all ones: every category word is a category. -/
theorem vocab_of_fn {G : FTy → Type} [FloatOps G] {a0 : IVec Cert.Pre_in_vocab.S16384x26 32} {a1 a2 a3 a4 a5 a6 a7 a8 a9 a10 a11}
    (h : Cert.Pre_in_vocab.fn (F := G) a0 a1 a2 a3 a4 a5 a6 a7 a8 a9 a10 a11 = fun _ => 1#1) (k : Cert.Pre_in_vocab.S16384x26.Idx) : (a0 k).toNat < 100000 := by
  have e := congrFun h (fun a => a.elim0)
  unfold Cert.Pre_in_vocab.fn at e
  have e' := Host.reduce_andi_all _ _ _ _ _ e k
  have e2 := IntOp.andi_eq_one.1 e'
  exact word_lt _ (IntOp.cmpi_sge.1 e2.1) (IntOp.cmpi_slt.1 e2.2)

/-! ## The frame claims -/

/-- The arguments' contents, kept. -/
def ArgsKept (m : (ℓ : Loc nD τ sig) → Buf (Elt F) ℓ) (c : Dev nD) (m' : (ℓ : Loc nD τ sig) → Buf (Elt F) ℓ) : Prop :=
  m' (c, Proc.devRef .tc main_arg0) = m (c, Proc.devRef .tc main_arg0) ∧ m' (c, Proc.devRef .tc main_arg1) = m (c, Proc.devRef .tc main_arg1)
  ∧ m' (c, Proc.devRef .tc main_arg2) = m (c, Proc.devRef .tc main_arg2) ∧ m' (c, Proc.devRef .tc main_arg3) = m (c, Proc.devRef .tc main_arg3)
  ∧ m' (c, Proc.devRef .tc main_arg4) = m (c, Proc.devRef .tc main_arg4) ∧ m' (c, Proc.devRef .tc main_arg5) = m (c, Proc.devRef .tc main_arg5)
  ∧ m' (c, Proc.devRef .tc main_arg6) = m (c, Proc.devRef .tc main_arg6) ∧ m' (c, Proc.devRef .tc main_arg7) = m (c, Proc.devRef .tc main_arg7)
  ∧ m' (c, Proc.devRef .tc main_arg8) = m (c, Proc.devRef .tc main_arg8) ∧ m' (c, Proc.devRef .tc main_arg9) = m (c, Proc.devRef .tc main_arg9)
  ∧ m' (c, Proc.devRef .tc main_arg10) = m (c, Proc.devRef .tc main_arg10) ∧ m' (c, Proc.devRef .tc main_arg11) = m (c, Proc.devRef .tc main_arg11)

/-- At every final state: the arguments kept, the result at its named contents, the counters at zero. -/
theorem final {m : (ℓ : Loc nD τ sig) → Buf (Elt F) ℓ} {r : PUnit × MemSt nD τ sig (Elt F)} (h : QC m r) :
    (∀ c : Dev nD, r.2.mem (c, Proc.devRef .tc main_v32) = VF m c (Proc.devRef .tc main_v32) ∧ ArgsKept m c r.2.mem) ∧ r.2.sem = fun _ => 0 := by
  have keep (c : Dev nD) (b : Ref sig .tc) (hs : b.isScoped = false) (hA : b ∉ outsA) (hB : b ∉ outsB) (h8 : b ≠ main_v8) (hF : b ≠ main_v32) :
      r.2.mem (c, Proc.devRef .tc b) = m (c, Proc.devRef .tc b) :=
    (h.1 c _ (Pipeline.devRef_mem_ucRefs hs)).trans (VF_kept m c b hA hB h8 hF)
  refine ⟨fun c => ⟨h.1 c _ (Pipeline.devRef_mem_ucRefs rfl), ?_⟩, h.2⟩
  refine ⟨?_, ?_, ?_, ?_, ?_, ?_, ?_, ?_, ?_, ?_, ?_, ?_⟩ <;> exact keep c _ rfl (by decide) (by decide) (by decide) (by decide)

/-- From any launch memory whose category words are categories: the run ends with the arguments kept and the counters at zero. -/
theorem run_frame [∀ e, Nonempty (Elt F e)] (m : (ℓ : Loc nD τ sig) → Buf (Elt F) ℓ) (ρ : Dev nD → PrngReg)
    (h : ∀ d : Dev nD, Vocab (m (d, Proc.devRef .tc main_arg0))) :
    θ_run (Cert.KernelIdeal.defs (F := F)) (Cert.KernelIdeal.threads (F := F)) ⟨m, fun _ => 0, ρ⟩
      (fun r => (∀ c : Dev nD, ArgsKept m c r.2.mem) ∧ r.2.sem = fun _ => 0) :=
  (θ_run Cert.KernelIdeal.defs _ _).mono (fun _ h => ⟨fun c => ((final h).1 c).2, (final h).2⟩) (run_main (F := F) m ρ (inRange m h))

set_option maxHeartbeats 1000000 in
/-- The two printings of the kernel have the same bodies. -/
theorem bodies_eq : Cert.Kernel.defs₀ (F := Bits) = Cert.KernelIdeal.defs₀ (F := Bits) := by
  funext p l a
  match p, l, a with
  | .scVector _ _, 0, _ => rfl
  | .scVector _ _, 1, _ => rfl
  | .tc, 1, (_, _) => rfl
  | .tc, 0, _ => rfl
  | .scScalar _, 0, _ => rfl
  | .scScalar _, 1, _ => rfl

/-- So have they the same table. -/
theorem table_eq : Cert.Kernel.defs (F := Bits) = Cert.KernelIdeal.defs (F := Bits) :=
  congrArg (fun D => (Cert.KernelIdeal.sc (F := Bits)).defs (Pipeline.defs Cert.KernelIdeal.pcfgs D)) bodies_eq

set_option maxHeartbeats 1000000 in
/-- `Cert.quiescent_Kernel` (Defs.lean). -/
theorem frame_kernel : Cert.quiescent_Kernel := by
  intro m ρ hpre
  have h := run_frame (F := Bits) m ρ fun d => vocab_of_fn (hpre d)
  rw [← table_eq] at h
  exact h

/-- `Cert.quiescent_KernelIdeal` (Defs.lean). -/
theorem frame_ideal : Cert.quiescent_KernelIdeal := fun m ρ hpre => run_frame (F := Ideal) m ρ fun d => vocab_of_fn (hpre d)

end Cert.Proof.Run

end
-- ==== Proof.Final.lean ====
/-
  The result array after the run: its row is the dense body's row, on the block of rows that holds it.
-/
module

public import proofs.«01_k».proof.Proof.Frame
public import Idealize.ShloMosaic.Lib.Pointwise

@[expose] public section

set_option maxRecDepth 16384

noncomputable section

namespace Cert.Proof.Run

open Cert.KernelIdeal Cert.KernelIdeal.Gen

open Idealize.ShloMosaic Idealize.ShloMosaic.TcCoe
open Idealize.ShloMosaic.Pipeline (Dat Cfg Window)
open Idealize.SL.Sem

variable {F : FTy → Type} [FloatOps F]

/-- The sixteen points. -/
theorem pt_lt (t : Fin cfg1.N) : t.val < 16 := lt_of_lt_of_eq t.isLt N_1

/-- Row `r` of block `t` in the whole array. -/
def blkRow (t : Fin cfg1.N) (r : Fin 1024) : Fin 16384 := ⟨t.val * 1024 + r.val, by have := pt_lt t; have := r.isLt; omega⟩

/-- Block `t` of an array of 16384 rows. -/
def rowsOf {n : ℕ} {α : Type} (a : (⟨2, ![16384, n]⟩ : Shape).Idx → α) (t : Fin cfg1.N) : (⟨2, ![1024, n]⟩ : Shape).Idx → α :=
  fun j => a (ix2 (blkRow t (j 0)) (j 1))

theorem ix_rows0 : ∀ t : Fin cfg1.N, win1_0.index t (0 : Fin 2) = t.val ∧ win1_0.index t (1 : Fin 2) = 0 := (by decide +kernel : ∀ t : Fin grid1.N, _)
theorem ix_rows1 : ∀ t : Fin cfg1.N, win1_1.index t (0 : Fin 2) = t.val ∧ win1_1.index t (1 : Fin 2) = 0 := (by decide +kernel : ∀ t : Fin grid1.N, _)
theorem ix_rows15 : ∀ t : Fin cfg1.N, win1_15.index t (0 : Fin 2) = t.val ∧ win1_15.index t (1 : Fin 2) = 0 := (by decide +kernel : ∀ t : Fin grid1.N, _)
theorem ix_zero2 : ∀ t : Fin cfg1.N, win1_2.index t (0 : Fin 2) = 0 ∧ win1_2.index t (1 : Fin 2) = 0 := (by decide +kernel : ∀ t : Fin grid1.N, _)
theorem ix_zero3 : ∀ t : Fin cfg1.N, win1_3.index t (0 : Fin 2) = 0 ∧ win1_3.index t (1 : Fin 2) = 0 := (by decide +kernel : ∀ t : Fin grid1.N, _)
theorem ix_zero4 : ∀ t : Fin cfg1.N, win1_4.index t (0 : Fin 2) = 0 ∧ win1_4.index t (1 : Fin 2) = 0 := (by decide +kernel : ∀ t : Fin grid1.N, _)
theorem ix_zero5 : ∀ t : Fin cfg1.N, win1_5.index t (0 : Fin 2) = 0 ∧ win1_5.index t (1 : Fin 2) = 0 := (by decide +kernel : ∀ t : Fin grid1.N, _)
theorem ix_zero6 : ∀ t : Fin cfg1.N, win1_6.index t (0 : Fin 2) = 0 ∧ win1_6.index t (1 : Fin 2) = 0 := (by decide +kernel : ∀ t : Fin grid1.N, _)
theorem ix_zero7 : ∀ t : Fin cfg1.N, win1_7.index t (0 : Fin 2) = 0 ∧ win1_7.index t (1 : Fin 2) = 0 := (by decide +kernel : ∀ t : Fin grid1.N, _)
theorem ix_zero8 : ∀ t : Fin cfg1.N, win1_8.index t (0 : Fin 2) = 0 ∧ win1_8.index t (1 : Fin 2) = 0 := (by decide +kernel : ∀ t : Fin grid1.N, _)
theorem ix_zero9 : ∀ t : Fin cfg1.N, win1_9.index t (0 : Fin 2) = 0 ∧ win1_9.index t (1 : Fin 2) = 0 := (by decide +kernel : ∀ t : Fin grid1.N, _)
theorem ix_zero10 : ∀ t : Fin cfg1.N, win1_10.index t (0 : Fin 2) = 0 ∧ win1_10.index t (1 : Fin 2) = 0 := (by decide +kernel : ∀ t : Fin grid1.N, _)
theorem ix_zero11 : ∀ t : Fin cfg1.N, win1_11.index t (0 : Fin 2) = 0 ∧ win1_11.index t (1 : Fin 2) = 0 := (by decide +kernel : ∀ t : Fin grid1.N, _)
theorem ix_zero12 : ∀ t : Fin cfg1.N, win1_12.index t (0 : Fin 2) = 0 ∧ win1_12.index t (1 : Fin 2) = 0 := (by decide +kernel : ∀ t : Fin grid1.N, _)
theorem ix_zero13 : ∀ t : Fin cfg1.N, win1_13.index t (0 : Fin 2) = 0 ∧ win1_13.index t (1 : Fin 2) = 0 := (by decide +kernel : ∀ t : Fin grid1.N, _)
theorem ix_zero14 : ∀ t : Fin cfg1.N, win1_14.index t (0 : Fin 2) = 0 ∧ win1_14.index t (1 : Fin 2) = 0 := (by decide +kernel : ∀ t : Fin grid1.N, _)

theorem emb_0 (t : Fin cfg1.N) (j : S1024x416.Idx) : ((cfg1.win 0).blk t).view.emb j = (ix2 (blkRow t (j 0)) (j 1) : S16384x416.Idx) := by
  obtain ⟨e0, e1⟩ := ix_rows0 t
  funext a; apply Fin.ext
  match a with
  | ⟨0, _⟩ => show win1_0.index t (0 : Fin 2) * 1024 + 1 * (j 0).val = t.val * 1024 + (j 0).val; omega
  | ⟨1, _⟩ => show win1_0.index t (1 : Fin 2) * 416 + 1 * (j 1).val = (j 1).val; omega

theorem emb_1 (t : Fin cfg1.N) (j : S1024x16.Idx) : ((cfg1.win 1).blk t).view.emb j = (ix2 (blkRow t (j 0)) (j 1) : S16384x16.Idx) := by
  obtain ⟨e0, e1⟩ := ix_rows1 t
  funext a; apply Fin.ext
  match a with
  | ⟨0, _⟩ => show win1_1.index t (0 : Fin 2) * 1024 + 1 * (j 0).val = t.val * 1024 + (j 0).val; omega
  | ⟨1, _⟩ => show win1_1.index t (1 : Fin 2) * 16 + 1 * (j 1).val = (j 1).val; omega

theorem emb_15 (t : Fin cfg1.N) (j : S1024x1.Idx) : ((cfg1.win 15).blk t).view.emb j = (ix2 (blkRow t (j 0)) (j 1) : S16384x1.Idx) := by
  obtain ⟨e0, e1⟩ := ix_rows15 t
  funext a; apply Fin.ext
  match a with
  | ⟨0, _⟩ => show win1_15.index t (0 : Fin 2) * 1024 + 1 * (j 0).val = t.val * 1024 + (j 0).val; omega
  | ⟨1, _⟩ => show win1_15.index t (1 : Fin 2) * 1 + 1 * (j 1).val = (j 1).val; omega

theorem emb_2 (t : Fin cfg1.N) (j : S416x256.Idx) : ((cfg1.win 2).blk t).view.emb j = j := by
  obtain ⟨e0, e1⟩ := ix_zero2 t
  funext a; apply Fin.ext
  match a with
  | ⟨0, _⟩ => show win1_2.index t (0 : Fin 2) * 416 + 1 * (j 0).val = (j 0).val; omega
  | ⟨1, _⟩ => show win1_2.index t (1 : Fin 2) * 256 + 1 * (j 1).val = (j 1).val; omega
theorem emb_3 (t : Fin cfg1.N) (j : S16x256.Idx) : ((cfg1.win 3).blk t).view.emb j = j := by
  obtain ⟨e0, e1⟩ := ix_zero3 t
  funext a; apply Fin.ext
  match a with
  | ⟨0, _⟩ => show win1_3.index t (0 : Fin 2) * 16 + 1 * (j 0).val = (j 0).val; omega
  | ⟨1, _⟩ => show win1_3.index t (1 : Fin 2) * 256 + 1 * (j 1).val = (j 1).val; omega
theorem emb_4 (t : Fin cfg1.N) (j : S1x256.Idx) : ((cfg1.win 4).blk t).view.emb j = j := by
  obtain ⟨e0, e1⟩ := ix_zero4 t
  funext a; apply Fin.ext
  match a with
  | ⟨0, _⟩ => show win1_4.index t (0 : Fin 2) * 1 + 1 * (j 0).val = (j 0).val; omega
  | ⟨1, _⟩ => show win1_4.index t (1 : Fin 2) * 256 + 1 * (j 1).val = (j 1).val; omega
theorem emb_5 (t : Fin cfg1.N) (j : S256x128.Idx) : ((cfg1.win 5).blk t).view.emb j = j := by
  obtain ⟨e0, e1⟩ := ix_zero5 t
  funext a; apply Fin.ext
  match a with
  | ⟨0, _⟩ => show win1_5.index t (0 : Fin 2) * 256 + 1 * (j 0).val = (j 0).val; omega
  | ⟨1, _⟩ => show win1_5.index t (1 : Fin 2) * 128 + 1 * (j 1).val = (j 1).val; omega
theorem emb_6 (t : Fin cfg1.N) (j : S1x128.Idx) : ((cfg1.win 6).blk t).view.emb j = j := by
  obtain ⟨e0, e1⟩ := ix_zero6 t
  funext a; apply Fin.ext
  match a with
  | ⟨0, _⟩ => show win1_6.index t (0 : Fin 2) * 1 + 1 * (j 0).val = (j 0).val; omega
  | ⟨1, _⟩ => show win1_6.index t (1 : Fin 2) * 128 + 1 * (j 1).val = (j 1).val; omega
theorem emb_7 (t : Fin cfg1.N) (j : S1x128.Idx) : ((cfg1.win 7).blk t).view.emb j = j := by
  obtain ⟨e0, e1⟩ := ix_zero7 t
  funext a; apply Fin.ext
  match a with
  | ⟨0, _⟩ => show win1_7.index t (0 : Fin 2) * 1 + 1 * (j 0).val = (j 0).val; omega
  | ⟨1, _⟩ => show win1_7.index t (1 : Fin 2) * 128 + 1 * (j 1).val = (j 1).val; omega
theorem emb_8 (t : Fin cfg1.N) (j : S1x416.Idx) : ((cfg1.win 8).blk t).view.emb j = j := by
  obtain ⟨e0, e1⟩ := ix_zero8 t
  funext a; apply Fin.ext
  match a with
  | ⟨0, _⟩ => show win1_8.index t (0 : Fin 2) * 1 + 1 * (j 0).val = (j 0).val; omega
  | ⟨1, _⟩ => show win1_8.index t (1 : Fin 2) * 416 + 1 * (j 1).val = (j 1).val; omega
theorem emb_9 (t : Fin cfg1.N) (j : S1x16.Idx) : ((cfg1.win 9).blk t).view.emb j = j := by
  obtain ⟨e0, e1⟩ := ix_zero9 t
  funext a; apply Fin.ext
  match a with
  | ⟨0, _⟩ => show win1_9.index t (0 : Fin 2) * 1 + 1 * (j 0).val = (j 0).val; omega
  | ⟨1, _⟩ => show win1_9.index t (1 : Fin 2) * 16 + 1 * (j 1).val = (j 1).val; omega
theorem emb_10 (t : Fin cfg1.N) (j : S416x16.Idx) : ((cfg1.win 10).blk t).view.emb j = j := by
  obtain ⟨e0, e1⟩ := ix_zero10 t
  funext a; apply Fin.ext
  match a with
  | ⟨0, _⟩ => show win1_10.index t (0 : Fin 2) * 416 + 1 * (j 0).val = (j 0).val; omega
  | ⟨1, _⟩ => show win1_10.index t (1 : Fin 2) * 16 + 1 * (j 1).val = (j 1).val; omega
theorem emb_11 (t : Fin cfg1.N) (j : S16x16.Idx) : ((cfg1.win 11).blk t).view.emb j = j := by
  obtain ⟨e0, e1⟩ := ix_zero11 t
  funext a; apply Fin.ext
  match a with
  | ⟨0, _⟩ => show win1_11.index t (0 : Fin 2) * 16 + 1 * (j 0).val = (j 0).val; omega
  | ⟨1, _⟩ => show win1_11.index t (1 : Fin 2) * 16 + 1 * (j 1).val = (j 1).val; omega
theorem emb_12 (t : Fin cfg1.N) (j : S416x16.Idx) : ((cfg1.win 12).blk t).view.emb j = j := by
  obtain ⟨e0, e1⟩ := ix_zero12 t
  funext a; apply Fin.ext
  match a with
  | ⟨0, _⟩ => show win1_12.index t (0 : Fin 2) * 416 + 1 * (j 0).val = (j 0).val; omega
  | ⟨1, _⟩ => show win1_12.index t (1 : Fin 2) * 16 + 1 * (j 1).val = (j 1).val; omega
theorem emb_13 (t : Fin cfg1.N) (j : S16x16.Idx) : ((cfg1.win 13).blk t).view.emb j = j := by
  obtain ⟨e0, e1⟩ := ix_zero13 t
  funext a; apply Fin.ext
  match a with
  | ⟨0, _⟩ => show win1_13.index t (0 : Fin 2) * 16 + 1 * (j 0).val = (j 0).val; omega
  | ⟨1, _⟩ => show win1_13.index t (1 : Fin 2) * 16 + 1 * (j 1).val = (j 1).val; omega
theorem emb_14 (t : Fin cfg1.N) (j : S1x1.Idx) : ((cfg1.win 14).blk t).view.emb j = j := by
  obtain ⟨e0, e1⟩ := ix_zero14 t
  funext a; apply Fin.ext
  match a with
  | ⟨0, _⟩ => show win1_14.index t (0 : Fin 2) * 1 + 1 * (j 0).val = (j 0).val; omega
  | ⟨1, _⟩ => show win1_14.index t (1 : Fin 2) * 1 + 1 * (j 1).val = (j 1).val; omega

section Blocks
variable (W : Dev nD → Valuation τ sig (Elt F)) (c : Dev nD)

theorem blk_0 (t : Fin cfg1.N) : blk1 W c 0 t = rowsOf (n := 416) (W c (Proc.devRef .tc main_v9)) t := by
  funext j
  show W c (Proc.devRef .tc main_v9) (((cfg1.win 0).blk t).view.emb j) = _
  rw [emb_0]; rfl
theorem blk_1 (t : Fin cfg1.N) : blk1 W c 1 t = rowsOf (n := 16) (W c (Proc.devRef .tc main_v10)) t := by
  funext j
  show W c (Proc.devRef .tc main_v10) (((cfg1.win 1).blk t).view.emb j) = _
  rw [emb_1]; rfl
theorem blk_2 (t : Fin cfg1.N) : blk1 W c 2 t = W c (Proc.devRef .tc main_v11) := by
  funext j
  show W c (Proc.devRef .tc main_v11) (((cfg1.win 2).blk t).view.emb j) = _
  rw [emb_2]
theorem blk_3 (t : Fin cfg1.N) : blk1 W c 3 t = W c (Proc.devRef .tc main_v13) := by
  funext j
  show W c (Proc.devRef .tc main_v13) (((cfg1.win 3).blk t).view.emb j) = _
  rw [emb_3]
theorem blk_4 (t : Fin cfg1.N) : blk1 W c 4 t = W c (Proc.devRef .tc main_v28) := by
  funext j
  show W c (Proc.devRef .tc main_v28) (((cfg1.win 4).blk t).view.emb j) = _
  rw [emb_4]
theorem blk_5 (t : Fin cfg1.N) : blk1 W c 5 t = W c (Proc.devRef .tc main_arg8) := by
  funext j
  show W c (Proc.devRef .tc main_arg8) (((cfg1.win 5).blk t).view.emb j) = _
  rw [emb_5]
theorem blk_6 (t : Fin cfg1.N) : blk1 W c 6 t = W c (Proc.devRef .tc main_v29) := by
  funext j
  show W c (Proc.devRef .tc main_v29) (((cfg1.win 6).blk t).view.emb j) = _
  rw [emb_6]
theorem blk_7 (t : Fin cfg1.N) : blk1 W c 7 t = W c (Proc.devRef .tc main_v27) := by
  funext j
  show W c (Proc.devRef .tc main_v27) (((cfg1.win 7).blk t).view.emb j) = _
  rw [emb_7]
theorem blk_8 (t : Fin cfg1.N) : blk1 W c 8 t = W c (Proc.devRef .tc main_v16) := by
  funext j
  show W c (Proc.devRef .tc main_v16) (((cfg1.win 8).blk t).view.emb j) = _
  rw [emb_8]
theorem blk_9 (t : Fin cfg1.N) : blk1 W c 9 t = W c (Proc.devRef .tc main_v20) := by
  funext j
  show W c (Proc.devRef .tc main_v20) (((cfg1.win 9).blk t).view.emb j) = _
  rw [emb_9]
theorem blk_10 (t : Fin cfg1.N) : blk1 W c 10 t = W c (Proc.devRef .tc main_v21) := by
  funext j
  show W c (Proc.devRef .tc main_v21) (((cfg1.win 10).blk t).view.emb j) = _
  rw [emb_10]
theorem blk_11 (t : Fin cfg1.N) : blk1 W c 11 t = W c (Proc.devRef .tc main_v23) := by
  funext j
  show W c (Proc.devRef .tc main_v23) (((cfg1.win 11).blk t).view.emb j) = _
  rw [emb_11]
theorem blk_12 (t : Fin cfg1.N) : blk1 W c 12 t = W c (Proc.devRef .tc main_v24) := by
  funext j
  show W c (Proc.devRef .tc main_v24) (((cfg1.win 12).blk t).view.emb j) = _
  rw [emb_12]
theorem blk_13 (t : Fin cfg1.N) : blk1 W c 13 t = W c (Proc.devRef .tc main_v25) := by
  funext j
  show W c (Proc.devRef .tc main_v25) (((cfg1.win 13).blk t).view.emb j) = _
  rw [emb_13]
theorem blk_14 (t : Fin cfg1.N) : blk1 W c 14 t = W c (Proc.devRef .tc main_v31) := by
  funext j
  show W c (Proc.devRef .tc main_v31) (((cfg1.win 14).blk t).view.emb j) = _
  rw [emb_14]

/-- What block `t` of the result is. -/
def denseBlk (t : Fin cfg1.N) : FVec F S1024x1 .f32 :=
  dense (rowsOf (n := 416) (W c (Proc.devRef .tc main_v9)) t) (rowsOf (n := 16) (W c (Proc.devRef .tc main_v10)) t)
    (W c (Proc.devRef .tc main_v11)) (W c (Proc.devRef .tc main_v13)) (W c (Proc.devRef .tc main_v28)) (W c (Proc.devRef .tc main_arg8))
    (W c (Proc.devRef .tc main_v29)) (W c (Proc.devRef .tc main_v27)) (W c (Proc.devRef .tc main_v16)) (W c (Proc.devRef .tc main_v20))
    (W c (Proc.devRef .tc main_v21)) (W c (Proc.devRef .tc main_v23)) (W c (Proc.devRef .tc main_v24)) (W c (Proc.devRef .tc main_v25))
    (W c (Proc.devRef .tc main_v31))

/-- The point of a row. -/
def ptOf (i : Fin 16384) : Fin cfg1.N := ⟨i.val / 1024, by rw [show cfg1.N = 16 from N_1]; have := i.isLt; omega⟩
/-- The row inside its block. -/
def inBlk (i : Fin 16384) : Fin 1024 := ⟨i.val % 1024, Nat.mod_lt _ (by decide)⟩

/-- The whole result. -/
def denseAll : FVec F S16384x1 .f32 := fun j => denseBlk W c (ptOf (j 0)) (ix2 (inBlk (j 0)) (j 1))

theorem ptOf_blkRow (t : Fin cfg1.N) (r : Fin 1024) : ptOf (blkRow t r) = t := by
  apply Fin.ext; show (t.val * 1024 + r.val) / 1024 = t.val; have := r.isLt; omega
theorem inBlk_blkRow (t : Fin cfg1.N) (r : Fin 1024) : inBlk (blkRow t r) = r := by
  apply Fin.ext; show (t.val * 1024 + r.val) % 1024 = r.val; have := r.isLt; omega
theorem blkRow_ptOf (i : Fin 16384) : blkRow (ptOf i) (inBlk i) = i := by
  apply Fin.ext; show i.val / 1024 * 1024 + i.val % 1024 = i.val; omega

theorem denseAll_row (t : Fin cfg1.N) (r : Fin 1024) (z : Fin 1) :
    denseAll W c (ix2 (blkRow t r) z : S16384x1.Idx) = denseBlk W c t (ix2 r z) := by
  show denseBlk W c (ptOf (blkRow t r)) (ix2 (inBlk (blkRow t r)) z) = _
  rw [ptOf_blkRow, inBlk_blkRow]

theorem denseAll_blkRow (t : Fin cfg1.N) (j : S1024x1.Idx) :
    denseAll W c (ix2 (blkRow t (j 0)) (j 1) : S16384x1.Idx) = denseBlk W c t j :=
  (denseAll_row W c t (j 0) (j 1)).trans
    (congrArg (denseBlk W c t) (funext fun a => by match a with | ⟨0, _⟩ => rfl | ⟨1, _⟩ => rfl))

theorem flushed_15 (t : Fin cfg1.N) :
    (dats W 0 c).flushed 15 t = ((cfg1.win 15).blk t).view.read (Elt F) (denseAll W c) := by
  show (cfg1.win 15).cut (grid1.coords t) ((dats W 0 c).after 15 t) = _
  rw [after_15, blk_0, blk_1, blk_2, blk_3, blk_4, blk_5, blk_6, blk_7, blk_8, blk_9, blk_10, blk_11, blk_12, blk_13, blk_14]
  funext j
  show denseBlk W c t j = denseAll W c (((cfg1.win 15).blk t).view.emb j)
  rw [emb_15]
  exact (denseAll_blkRow W c t j).symm

theorem cover_15 (i : S16384x1.Idx) : ∃ t : Fin cfg1.N, (cfg1.win 15).flush t = true ∧ i ∈ ((cfg1.win 15).blk t).view.set :=
  ⟨ptOf (i 0), flush1_15 _, by
    have h := ((cfg1.win 15).blk (ptOf (i 0))).view.emb_mem_set (ix2 (inBlk (i 0)) (i 1) : S1024x1.Idx)
    rw [emb_15] at h
    have e : (ix2 (blkRow (ptOf (i 0)) ((ix2 (inBlk (i 0)) (i 1) : S1024x1.Idx) 0)) ((ix2 (inBlk (i 0)) (i 1) : S1024x1.Idx) 1) : S16384x1.Idx) = i := by
      funext a
      match a with
      | ⟨0, _⟩ => exact blkRow_ptOf (i 0)
      | ⟨1, _⟩ => rfl
    rwa [e] at h⟩

theorem final_15 : (dats W 0 c).arrAt 15 cfg1.N = denseAll W c :=
  (dats W 0 c).arrAt_eq_of_cover 15 (denseAll W c) (fun t _ => flushed_15 W c t) cover_15

end Blocks

/-- The result array after the run. -/
theorem VF_out (m : (ℓ : Loc nD τ sig) → Buf (Elt F) ℓ) (c : Dev nD) : VF m c (Proc.devRef .tc main_v32) = denseAll (V2 m) c := by
  unfold VF
  exact (Pipeline.afterRegion_arr (dats (V2 m) 0 c) (V2 m c) winFacts1.arr_inj 15).trans (final_15 (V2 m) c)

end Cert.Proof.Run

end
-- ==== Proof.ReadB.lean ====
/-
  The arrays the TensorCore call reads, as the operations before it make them.
-/
module

public import proofs.«01_k».proof.Proof.Frame

@[expose] public section

set_option maxRecDepth 16384

noncomputable section

namespace Cert.Proof.Run

open Cert.KernelIdeal Cert.KernelIdeal.Gen

open Idealize.ShloMosaic Idealize.ShloMosaic.TcCoe
open Idealize.ShloMosaic.StableHlo

variable {F : FTy → Type} [FloatOps F]

/-- The word zero as a float. -/
def padv : FVec F S_ .f32 := sitofp .f32 (constantI S_ 32 0#32)

section Read
variable (V : Valuation τ sig (Elt F))

theorem B_v9 : after opsB V (Proc.devRef .tc main_v9) = (shapeCast S16384x416 (V (Proc.devRef .tc main_v8)) shapeCasts_S425984x16_S16384x416 : FVec F S16384x416 .f32) := by
  unfold opsB
  simp only [TRef.binary, TRef.unary, TRef.toBuf, TRef.ofBuf, cast_eq]
  after_results_simp <;> rfl

theorem B_v10 : after opsB V (Proc.devRef .tc main_v10) = (pad S16384x16 ![0, 0] ![0, 3] ![0, 0] (V (Proc.devRef .tc main_arg1)) padv pads_S16384x13_S16384x16_000_030 h_S_ : FVec F S16384x16 .f32) := by
  unfold opsB
  simp only [TRef.binary, TRef.unary, TRef.toBuf, TRef.ofBuf, cast_eq]
  after_results_simp <;> rfl

theorem B_v11 : after opsB V (Proc.devRef .tc main_v11) = (extractStridedSlice S416x256 ![0, 0] (V (Proc.devRef .tc main_arg6)) slices_S429x256_S416x256_0_0 : FVec F S416x256 .f32) := by
  unfold opsB
  simp only [TRef.binary, TRef.unary, TRef.toBuf, TRef.ofBuf, cast_eq]
  after_results_simp <;> rfl

theorem B_v13 : after opsB V (Proc.devRef .tc main_v13) = (pad S16x256 ![0, 0] ![3, 0] ![0, 0] (extractStridedSlice S13x256 ![416, 0] (V (Proc.devRef .tc main_arg6)) slices_S429x256_S13x256_416_0) padv pads_S13x256_S16x256_030_000 h_S_ : FVec F S16x256 .f32) := by
  unfold opsB
  simp only [TRef.binary, TRef.unary, TRef.toBuf, TRef.ofBuf, cast_eq]
  after_results_simp <;> rfl

theorem B_v28 : after opsB V (Proc.devRef .tc main_v28) = (broadcastInDim S1x256 ![1] bcast_S256_S1x256_1 (V (Proc.devRef .tc main_arg7)) : FVec F S1x256 .f32) := by
  unfold opsB
  simp only [TRef.binary, TRef.unary, TRef.toBuf, TRef.ofBuf, cast_eq]
  after_results_simp <;> rfl

theorem B_v29 : after opsB V (Proc.devRef .tc main_v29) = (broadcastInDim S1x128 ![1] bcast_S128_S1x128_1 (V (Proc.devRef .tc main_arg9)) : FVec F S1x128 .f32) := by
  unfold opsB
  simp only [TRef.binary, TRef.unary, TRef.toBuf, TRef.ofBuf, cast_eq]
  after_results_simp <;> rfl

theorem B_v27 : after opsB V (Proc.devRef .tc main_v27) = (broadcastInDim S1x128 ![1] bcast_S128_S1x128_1 (shapeCast S128 (V (Proc.devRef .tc main_arg10)) shapeCasts_S128x1_S128) : FVec F S1x128 .f32) := by
  unfold opsB
  simp only [TRef.binary, TRef.unary, TRef.toBuf, TRef.ofBuf, cast_eq]
  after_results_simp <;> rfl

theorem B_v16 : after opsB V (Proc.devRef .tc main_v16) = (broadcastInDim S1x416 ![1] bcast_S416_S1x416_1 (shapeCast S416 (extractStridedSlice S416x1 ![0, 0] (V (Proc.devRef .tc main_arg3)) slices_S429x1_S416x1_0_0) shapeCasts_S416x1_S416) : FVec F S1x416 .f32) := by
  unfold opsB
  simp only [TRef.binary, TRef.unary, TRef.toBuf, TRef.ofBuf, cast_eq]
  after_results_simp <;> rfl

theorem B_v20 : after opsB V (Proc.devRef .tc main_v20) = (broadcastInDim S1x16 ![1] bcast_S16_S1x16_1 (pad S16 ![0] ![3] ![0] (shapeCast S13 (extractStridedSlice S13x1 ![416, 0] (V (Proc.devRef .tc main_arg3)) slices_S429x1_S13x1_416_0) shapeCasts_S13x1_S13) padv pads_S13_S16_030 h_S_) : FVec F S1x16 .f32) := by
  unfold opsB
  simp only [TRef.binary, TRef.unary, TRef.toBuf, TRef.ofBuf, cast_eq]
  after_results_simp <;> rfl

theorem B_v21 : after opsB V (Proc.devRef .tc main_v21) = (extractStridedSlice S416x16 ![0, 0] (V (Proc.devRef .tc main_arg5)) slices_S429x16_S416x16_0_0 : FVec F S416x16 .f32) := by
  unfold opsB
  simp only [TRef.binary, TRef.unary, TRef.toBuf, TRef.ofBuf, cast_eq]
  after_results_simp <;> rfl

theorem B_v23 : after opsB V (Proc.devRef .tc main_v23) = (pad S16x16 ![0, 0] ![3, 0] ![0, 0] (extractStridedSlice S13x16 ![416, 0] (V (Proc.devRef .tc main_arg5)) slices_S429x16_S13x16_416_0) padv pads_S13x16_S16x16_030_000 h_S_ : FVec F S16x16 .f32) := by
  unfold opsB
  simp only [TRef.binary, TRef.unary, TRef.toBuf, TRef.ofBuf, cast_eq]
  after_results_simp <;> rfl

theorem B_v31 : after opsB V (Proc.devRef .tc main_v31) = (shapeCast S1x1 (addf (V (Proc.devRef .tc main_arg4)) (V (Proc.devRef .tc main_arg11))) shapeCasts_S1_S1x1 : FVec F S1x1 .f32) := by
  unfold opsB
  simp only [TRef.binary, TRef.unary, TRef.toBuf, TRef.ofBuf, cast_eq]
  after_results_simp <;> rfl

theorem B_v24 : after opsB V (Proc.devRef .tc main_v24) = (mulf (after opsB V (Proc.devRef .tc main_v21) : FVec F S416x16 .f32) (after opsB V (Proc.devRef .tc main_v21)) : FVec F S416x16 .f32) := by
  rw [B_v21]
  unfold opsB
  simp only [TRef.binary, TRef.unary, TRef.toBuf, TRef.ofBuf, cast_eq]
  after_results_simp <;> rfl

theorem B_v25 : after opsB V (Proc.devRef .tc main_v25) = (mulf (after opsB V (Proc.devRef .tc main_v23) : FVec F S16x16 .f32) (after opsB V (Proc.devRef .tc main_v23)) : FVec F S16x16 .f32) := by
  rw [B_v23]
  unfold opsB
  simp only [TRef.binary, TRef.unary, TRef.toBuf, TRef.ofBuf, cast_eq]
  after_results_simp <;> rfl

theorem B_arg8 : after opsB V (Proc.devRef .tc main_arg8) = V (Proc.devRef .tc main_arg8) :=
  StableHlo.after_of_writes_sub opsB _ opsB_writes (by decide)

end Read

/-- The arguments before the operations that follow the SparseCore call. -/
theorem V1_kept (m : (ℓ : Loc nD τ sig) → Buf (Elt F) ℓ) (d : Dev nD) (r : Ref sig .tc) (hA : r ∉ outsA) (h8 : r ≠ main_v8) :
    V1 m d (Proc.devRef .tc r) = m (d, Proc.devRef .tc r) := by
  unfold V1
  rw [Function.update_of_ne (fun e => h8 (Proc.devRef_injective _ e))]
  unfold VA
  rw [StableHlo.after_of_writes_sub opsA _ opsA_writes hA]
  rfl

theorem V1_v8 (m : (ℓ : Loc nD τ sig) → Buf (Elt F) ℓ) (d : Dev nD) : V1 m d (Proc.devRef .tc main_v8) = rows (ins m) d := by
  unfold V1
  rw [Function.update_self]

end Cert.Proof.Run

end
-- ==== Proof.DenseAt.lean ====
/-
  The dense body at a row, over the reals.
-/
module

public import proofs.«01_k».proof.Proof.Dense
public import Idealize.ShloMosaic.Lib.Pointwise

@[expose] public section

set_option maxRecDepth 16384

noncomputable section

namespace Cert.Proof.Run

open Cert.KernelIdeal Cert.KernelIdeal.Gen

open Idealize.ShloMosaic
open scoped BigOperators

/-- One half, as the literal is read. -/
def half : EReal := Ideal.ofBits FTy.f32 0x3F000000#32

/-- The two hidden layers and the last product, from the first layer's sums. -/
def deepForm (H : Fin 256 → EReal) (w2 : Fin 256 → Fin 128 → EReal) (b2 w3 : Fin 128 → EReal) : EReal :=
  ∑ h : Fin 128, max (∑ g : Fin 256, max (H g) 0 * w2 g h + b2 h) 0 * w3 h

/-- The interactions, from the sums `p` and the sums of squares `q`. -/
def interForm (p q : Fin 16 → EReal) : EReal := half * ∑ k : Fin 16, (p k * p k - q k)

theorem pay3_at (x0 : FVec Ideal S1024x416 .f32) (x1 : FVec Ideal S1024x16 .f32) (x2 : FVec Ideal S416x256 .f32) (x3 : FVec Ideal S16x256 .f32)
    (x4 : FVec Ideal S1x256 .f32) (x5 : FVec Ideal S256x128 .f32) (x6 x7 : FVec Ideal S1x128 .f32) (r : Fin 1024) :
    k1_pay3 (F := Ideal) x0 x1 x2 x3 x4 x5 x6 x7 (ix2 r (0 : Fin 1))
      = deepForm (fun g => (∑ k : Fin 416, x0 (ix2 r k) * x2 (ix2 k g)) + (∑ k : Fin 16, x1 (ix2 r k) * x3 (ix2 k g)) + x4 (ix2 0 g))
        (fun g h => x5 (ix2 g h)) (fun h => x6 (ix2 0 h)) (fun h => x7 (ix2 0 h)) := by
  pointwise [k1_pay3, k1_pay2, k1_pay1]
  rfl

theorem pay4_at (x0 : FVec Ideal S1024x416 .f32) (x8 : FVec Ideal S1x416 .f32) (r : Fin 1024) (k : Fin 416) :
    k1_pay4 (F := Ideal) x0 x8 (ix2 r k) = x0 (ix2 r k) * x8 (ix2 0 k) := by
  pointwise [k1_pay4, k1_pay1]

theorem pay5_at (x0 : FVec Ideal S1024x416 .f32) (x1 : FVec Ideal S1024x16 .f32) (y : FVec Ideal S1024x1 .f32) (z : FVec Ideal S1024x416 .f32)
    (x9 : FVec Ideal S1x16 .f32) (x10 : FVec Ideal S416x16 .f32) (x11 : FVec Ideal S16x16 .f32) (x12 : FVec Ideal S416x16 .f32)
    (x13 : FVec Ideal S16x16 .f32) (x14 : FVec Ideal S1x1 .f32) (r : Fin 1024) :
    k1_pay5 (F := Ideal) x0 x1 y z x9 x10 x11 x12 x13 x14 (ix2 r (0 : Fin 1))
      = ((∑ k : Fin 416, z (ix2 r k)) + (∑ k : Fin 16, x1 (ix2 r k) * x9 (ix2 0 k)))
        + interForm (fun q => (∑ k : Fin 416, x0 (ix2 r k) * x10 (ix2 k q)) + ∑ k : Fin 16, x1 (ix2 r k) * x11 (ix2 k q))
          (fun q => (∑ k : Fin 416, x0 (ix2 r k) * x0 (ix2 r k) * x12 (ix2 k q)) + ∑ k : Fin 16, x1 (ix2 r k) * x1 (ix2 r k) * x13 (ix2 k q))
        + y (ix2 r 0) + x14 (ix2 0 0) := by
  pointwise [k1_pay5, k1_pay2, k1_pay1]
  rfl

theorem dense_at (x0 : FVec Ideal S1024x416 .f32) (x1 : FVec Ideal S1024x16 .f32) (x2 : FVec Ideal S416x256 .f32) (x3 : FVec Ideal S16x256 .f32)
    (x4 : FVec Ideal S1x256 .f32) (x5 : FVec Ideal S256x128 .f32) (x6 x7 : FVec Ideal S1x128 .f32) (x8 : FVec Ideal S1x416 .f32)
    (x9 : FVec Ideal S1x16 .f32) (x10 : FVec Ideal S416x16 .f32) (x11 : FVec Ideal S16x16 .f32) (x12 : FVec Ideal S416x16 .f32)
    (x13 : FVec Ideal S16x16 .f32) (x14 : FVec Ideal S1x1 .f32) (r : Fin 1024) :
    dense (F := Ideal) x0 x1 x2 x3 x4 x5 x6 x7 x8 x9 x10 x11 x12 x13 x14 (ix2 r (0 : Fin 1))
      = ((∑ k : Fin 416, x0 (ix2 r k) * x8 (ix2 0 k)) + (∑ k : Fin 16, x1 (ix2 r k) * x9 (ix2 0 k)))
        + interForm (fun q => (∑ k : Fin 416, x0 (ix2 r k) * x10 (ix2 k q)) + ∑ k : Fin 16, x1 (ix2 r k) * x11 (ix2 k q))
          (fun q => (∑ k : Fin 416, x0 (ix2 r k) * x0 (ix2 r k) * x12 (ix2 k q)) + ∑ k : Fin 16, x1 (ix2 r k) * x1 (ix2 r k) * x13 (ix2 k q))
        + deepForm (fun g => (∑ k : Fin 416, x0 (ix2 r k) * x2 (ix2 k g)) + (∑ k : Fin 16, x1 (ix2 r k) * x3 (ix2 k g)) + x4 (ix2 0 g))
          (fun g h => x5 (ix2 g h)) (fun h => x6 (ix2 0 h)) (fun h => x7 (ix2 0 h))
        + x14 (ix2 0 0) := by
  unfold dense
  rw [pay5_at, pay3_at]
  simp only [pay4_at]
  simp only [k1_pay1, k1_pay2, shapeCast_self]

/-- A sum over the 429 features: the 416 of the embedding and the 13 others, padded to 16 by zeros. -/
theorem sum_split (f : Fin 429 → EReal) (g : Fin 416 → EReal) (h : Fin 16 → EReal)
    (hg : ∀ k : Fin 416, g k = f ⟨k.val, by have := k.isLt; omega⟩)
    (hh : ∀ k : Fin 13, h ⟨k.val, by have := k.isLt; omega⟩ = f ⟨416 + k.val, by have := k.isLt; omega⟩)
    (h0 : ∀ k : Fin 3, h ⟨13 + k.val, by have := k.isLt; omega⟩ = 0) :
    (∑ k, g k) + ∑ k, h k = ∑ k, f k := by
  have e1 : ∑ k, f k = (∑ k : Fin 416, f ⟨k.val, by have := k.isLt; omega⟩) + ∑ k : Fin 13, f ⟨416 + k.val, by have := k.isLt; omega⟩ :=
    Fin.sum_univ_add (a := 416) (b := 13) f
  have e2 : ∑ k, h k = (∑ k : Fin 13, h ⟨k.val, by have := k.isLt; omega⟩) + ∑ k : Fin 3, h ⟨13 + k.val, by have := k.isLt; omega⟩ :=
    Fin.sum_univ_add (a := 13) (b := 3) h
  rw [e1, e2, Finset.sum_congr rfl fun k _ => hg k, Finset.sum_congr rfl fun k _ => hh k, Finset.sum_congr rfl fun k _ => h0 k]
  simp

end Cert.Proof.Run

end
-- ==== Proof.Rows.lean ====
/-
  The arrays the TensorCore call reads, entry by entry over the reals: the embedded rows, the other features, and the weights in their two parts.
-/
module

public import proofs.«01_k».proof.Proof.ReadB
public import proofs.«01_k».proof.Proof.DenseAt

@[expose] public section

set_option maxRecDepth 16384

noncomputable section

namespace Cert.Proof.Run

open Cert.KernelIdeal Cert.KernelIdeal.Gen

open Idealize.ShloMosaic Idealize.ShloMosaic.TcCoe
open Idealize.ShloMosaic.StableHlo
open scoped BigOperators

/-! ## The parts of the arguments -/

/-- The 13 other features, padded to 16. -/
def contP (a1 : FVec Ideal S16384x13 .f32) : FVec Ideal S16384x16 .f32 :=
  pad S16384x16 ![0, 0] ![0, 3] ![0, 0] a1 padv pads_S16384x13_S16384x16_000_030 h_S_
/-- The first layer's weights of the embedded features. -/
def w1Lo (a6 : FVec Ideal S429x256 .f32) : FVec Ideal S416x256 .f32 := extractStridedSlice S416x256 ![0, 0] a6 slices_S429x256_S416x256_0_0
/-- The first layer's weights of the other features. -/
def w1Hi (a6 : FVec Ideal S429x256 .f32) : FVec Ideal S16x256 .f32 :=
  pad S16x256 ![0, 0] ![3, 0] ![0, 0] (extractStridedSlice S13x256 ![416, 0] a6 slices_S429x256_S13x256_416_0) padv pads_S13x256_S16x256_030_000 h_S_
/-- The linear weights of the embedded features, as a row. -/
def fwLo (a3 : FVec Ideal S429x1 .f32) : FVec Ideal S1x416 .f32 :=
  broadcastInDim S1x416 ![1] bcast_S416_S1x416_1 (shapeCast S416 (extractStridedSlice S416x1 ![0, 0] a3 slices_S429x1_S416x1_0_0) shapeCasts_S416x1_S416)
/-- The linear weights of the other features, as a row. -/
def fwHi (a3 : FVec Ideal S429x1 .f32) : FVec Ideal S1x16 .f32 :=
  broadcastInDim S1x16 ![1] bcast_S16_S1x16_1 (pad S16 ![0] ![3] ![0] (shapeCast S13 (extractStridedSlice S13x1 ![416, 0] a3 slices_S429x1_S13x1_416_0) shapeCasts_S13x1_S13) padv pads_S13_S16_030 h_S_)
/-- The factors of the embedded features. -/
def fvLo (a5 : FVec Ideal S429x16 .f32) : FVec Ideal S416x16 .f32 := extractStridedSlice S416x16 ![0, 0] a5 slices_S429x16_S416x16_0_0
/-- The factors of the other features. -/
def fvHi (a5 : FVec Ideal S429x16 .f32) : FVec Ideal S16x16 .f32 :=
  pad S16x16 ![0, 0] ![3, 0] ![0, 0] (extractStridedSlice S13x16 ![416, 0] a5 slices_S429x16_S13x16_416_0) padv pads_S13x16_S16x16_030_000 h_S_
/-- The last layer's weights, as a row. -/
def w3Row (a10 : FVec Ideal S128x1 .f32) : FVec Ideal S1x128 .f32 :=
  broadcastInDim S1x128 ![1] bcast_S128_S1x128_1 (shapeCast S128 a10 shapeCasts_S128x1_S128)

theorem padv_at (j : S_.Idx) : padv (F := Ideal) j = 0 := by
  show ((((0#32 : BitVec 32).toInt : ℝ)) : EReal) = 0
  simp

theorem contP_lo (a1 : FVec Ideal S16384x13 .f32) (i : Fin 16384) (k : Fin 13) (hk : k.val < 16) : contP a1 (ix2 i (⟨k.val, hk⟩ : Fin 16)) = a1 (ix2 i k) := by
  pointwise [contP]
theorem contP_hi (a1 : FVec Ideal S16384x13 .f32) (i : Fin 16384) (k : Fin 3) (hk : 13 + k.val < 16) : contP a1 (ix2 i (⟨13 + k.val, hk⟩ : Fin 16)) = 0 := by
  pointwise [contP]
  exact padv_at _
theorem w1Lo_at (a6 : FVec Ideal S429x256 .f32) (k : Fin 416) (g : Fin 256) (hk : k.val < 429) : w1Lo a6 (ix2 k g) = a6 (ix2 (⟨k.val, hk⟩ : Fin 429) g) := by
  pointwise [w1Lo]
theorem w1Hi_at (a6 : FVec Ideal S429x256 .f32) (k : Fin 13) (g : Fin 256) (hk : k.val < 16) (hk' : 416 + k.val < 429) :
    w1Hi a6 (ix2 (⟨k.val, hk⟩ : Fin 16) g) = a6 (ix2 (⟨416 + k.val, hk'⟩ : Fin 429) g) := by
  pointwise [w1Hi]
theorem fwLo_at (a3 : FVec Ideal S429x1 .f32) (k : Fin 416) (hk : k.val < 429) : fwLo a3 (ix2 (0 : Fin 1) k) = a3 (ix2 (⟨k.val, hk⟩ : Fin 429) 0) := by
  pointwise [fwLo]
theorem fwHi_at (a3 : FVec Ideal S429x1 .f32) (k : Fin 13) (hk : k.val < 16) (hk' : 416 + k.val < 429) :
    fwHi a3 (ix2 (0 : Fin 1) (⟨k.val, hk⟩ : Fin 16)) = a3 (ix2 (⟨416 + k.val, hk'⟩ : Fin 429) 0) := by
  pointwise [fwHi]
theorem fvLo_at (a5 : FVec Ideal S429x16 .f32) (k : Fin 416) (q : Fin 16) (hk : k.val < 429) : fvLo a5 (ix2 k q) = a5 (ix2 (⟨k.val, hk⟩ : Fin 429) q) := by
  pointwise [fvLo]
theorem fvHi_at (a5 : FVec Ideal S429x16 .f32) (k : Fin 13) (q : Fin 16) (hk : k.val < 16) (hk' : 416 + k.val < 429) :
    fvHi a5 (ix2 (⟨k.val, hk⟩ : Fin 16) q) = a5 (ix2 (⟨416 + k.val, hk'⟩ : Fin 429) q) := by
  pointwise [fvHi]
theorem w3Row_at (a10 : FVec Ideal S128x1 .f32) (k : Fin 128) : w3Row a10 (ix2 (0 : Fin 1) k) = a10 (ix2 k 0) := by
  pointwise [w3Row]
theorem rowB1_at (a7 : FVec Ideal S256 .f32) (g : Fin 256) :
    (broadcastInDim S1x256 ![1] bcast_S256_S1x256_1 a7 : FVec Ideal S1x256 .f32) (ix2 (0 : Fin 1) g) = a7 (ix1 g) := by
  pointwise []
theorem rowB2_at (a9 : FVec Ideal S128 .f32) (g : Fin 128) :
    (broadcastInDim S1x128 ![1] bcast_S128_S1x128_1 a9 : FVec Ideal S1x128 .f32) (ix2 (0 : Fin 1) g) = a9 (ix1 g) := by
  pointwise []
theorem bias_at (a4 a11 : FVec Ideal S1 .f32) :
    (shapeCast S1x1 (addf a4 a11) shapeCasts_S1_S1x1 : FVec Ideal S1x1 .f32) (ix2 (0 : Fin 1) (0 : Fin 1)) = a4 (ix1 0) + a11 (ix1 0) := by
  pointwise []
theorem wide_at (x : FVec Ideal S425984x16 .f32) (i : Fin 16384) (k : Fin 416) :
    (shapeCast S16384x416 x shapeCasts_S425984x16_S16384x416 : FVec Ideal S16384x416 .f32) (ix2 i k)
      = x (ix2 (⟨i.val * 26 + k.val / 16, by have := i.isLt; have := k.isLt; omega⟩ : Fin 425984) (⟨k.val % 16, by omega⟩ : Fin 16)) := by
  pointwise []
theorem flatWords_at (w : IVec S16384x26 32) (i : Fin 16384) (f : Fin 26) (hi : i.val * 26 + f.val < 425984) :
    (shapeCast S425984 w shapeCasts_S16384x26_S425984 : IVec S425984 32) (ix1 (⟨i.val * 26 + f.val, hi⟩ : Fin 425984)) = w (ix2 i f) := by
  pointwise []
theorem flatTable_at (a2 : FVec Ideal S26x100000x16 .f32) (f : Fin 26) (v : Fin 100000) (z : Fin 16) (hi : 100000 * f.val + v.val < 2600000) :
    (shapeCast S2600000x16 a2 shapeCasts_S26x100000x16_S2600000x16 : FVec Ideal S2600000x16 .f32) (ix2 (⟨100000 * f.val + v.val, hi⟩ : Fin 2600000) z) = a2 (ix3 f v z) := by
  pointwise []

/-! ## The arrays of the call, from the arguments -/

section Arrays
variable (m : (ℓ : Loc nD τ sig) → Buf (Elt Ideal) ℓ) (c : Dev nD)

theorem V2_v10 : V2 m c (Proc.devRef .tc main_v10) = contP (m (c, Proc.devRef .tc main_arg1)) := by
  unfold V2
  rw [B_v10, V1_kept m c main_arg1 (by decide) (by decide)]
  rfl

theorem V2_v11 : V2 m c (Proc.devRef .tc main_v11) = w1Lo (m (c, Proc.devRef .tc main_arg6)) := by
  unfold V2
  rw [B_v11, V1_kept m c main_arg6 (by decide) (by decide)]
  rfl

theorem V2_v13 : V2 m c (Proc.devRef .tc main_v13) = w1Hi (m (c, Proc.devRef .tc main_arg6)) := by
  unfold V2
  rw [B_v13, V1_kept m c main_arg6 (by decide) (by decide)]
  rfl

theorem V2_v16 : V2 m c (Proc.devRef .tc main_v16) = fwLo (m (c, Proc.devRef .tc main_arg3)) := by
  unfold V2
  rw [B_v16, V1_kept m c main_arg3 (by decide) (by decide)]
  rfl

theorem V2_v20 : V2 m c (Proc.devRef .tc main_v20) = fwHi (m (c, Proc.devRef .tc main_arg3)) := by
  unfold V2
  rw [B_v20, V1_kept m c main_arg3 (by decide) (by decide)]
  rfl

theorem V2_v21 : V2 m c (Proc.devRef .tc main_v21) = fvLo (m (c, Proc.devRef .tc main_arg5)) := by
  unfold V2
  rw [B_v21, V1_kept m c main_arg5 (by decide) (by decide)]
  rfl

theorem V2_v23 : V2 m c (Proc.devRef .tc main_v23) = fvHi (m (c, Proc.devRef .tc main_arg5)) := by
  unfold V2
  rw [B_v23, V1_kept m c main_arg5 (by decide) (by decide)]
  rfl

theorem V2_v27 : V2 m c (Proc.devRef .tc main_v27) = w3Row (m (c, Proc.devRef .tc main_arg10)) := by
  unfold V2
  rw [B_v27, V1_kept m c main_arg10 (by decide) (by decide)]
  rfl

theorem V2_v28 : V2 m c (Proc.devRef .tc main_v28) = (broadcastInDim S1x256 ![1] bcast_S256_S1x256_1 (m (c, Proc.devRef .tc main_arg7)) : FVec Ideal S1x256 .f32) := by
  unfold V2
  rw [B_v28, V1_kept m c main_arg7 (by decide) (by decide)]

theorem V2_v29 : V2 m c (Proc.devRef .tc main_v29) = (broadcastInDim S1x128 ![1] bcast_S128_S1x128_1 (m (c, Proc.devRef .tc main_arg9)) : FVec Ideal S1x128 .f32) := by
  unfold V2
  rw [B_v29, V1_kept m c main_arg9 (by decide) (by decide)]

theorem V2_v31 : V2 m c (Proc.devRef .tc main_v31)
    = (shapeCast S1x1 (addf (m (c, Proc.devRef .tc main_arg4)) (m (c, Proc.devRef .tc main_arg11)) : FVec Ideal S1 .f32) shapeCasts_S1_S1x1 : FVec Ideal S1x1 .f32) := by
  unfold V2
  rw [B_v31, V1_kept m c main_arg4 (by decide) (by decide), V1_kept m c main_arg11 (by decide) (by decide)]

theorem V2_v24 : V2 m c (Proc.devRef .tc main_v24)
    = (mulf (fvLo (m (c, Proc.devRef .tc main_arg5))) (fvLo (m (c, Proc.devRef .tc main_arg5))) : FVec Ideal S416x16 .f32) := by
  have e := V2_v21 m c
  unfold V2 at e ⊢
  rw [B_v24, e]

theorem V2_v25 : V2 m c (Proc.devRef .tc main_v25)
    = (mulf (fvHi (m (c, Proc.devRef .tc main_arg5))) (fvHi (m (c, Proc.devRef .tc main_arg5))) : FVec Ideal S16x16 .f32) := by
  have e := V2_v23 m c
  unfold V2 at e ⊢
  rw [B_v25, e]

theorem V2_arg8 : V2 m c (Proc.devRef .tc main_arg8) = m (c, Proc.devRef .tc main_arg8) := by
  unfold V2
  rw [B_arg8, V1_kept m c main_arg8 (by decide) (by decide)]

theorem V2_v9 : V2 m c (Proc.devRef .tc main_v9) = (shapeCast S16384x416 (rows (ins m) c) shapeCasts_S425984x16_S16384x416 : FVec Ideal S16384x416 .f32) := by
  unfold V2
  rw [B_v9, V1_v8]

/-- Entry `k` of the embedded row `i`: field `k / 16`'s table at the row's category, column `k % 16`. -/
theorem V2_v9_at (h : Vocab (m (c, Proc.devRef .tc main_arg0))) (i : Fin 16384) (k : Fin 416) :
    (V2 m c (Proc.devRef .tc main_v9) : FVec Ideal S16384x416 .f32) (ix2 i k)
      = (m (c, Proc.devRef .tc main_arg2) : FVec Ideal S26x100000x16 .f32) (ix3 (⟨k.val / 16, by have := k.isLt; omega⟩ : Fin 26)
        (⟨((m (c, Proc.devRef .tc main_arg0) : IVec S16384x26 32) (ix2 i (⟨k.val / 16, by have := k.isLt; omega⟩ : Fin 26))).toNat, h _⟩ : Fin 100000)
        (⟨k.val % 16, by omega⟩ : Fin 16)) := by
  have hk : k.val / 16 < 26 := by have := k.isLt; omega
  have hi : i.val * 26 + k.val / 16 < 425984 := by have := i.isLt; omega
  have hv := h (ix2 i (⟨k.val / 16, hk⟩ : Fin 26))
  rw [V2_v9, wide_at]
  have e1 : (ins m).I c (iIx (⟨i.val * 26 + k.val / 16, hi⟩ : Fin 425984)) = rowWords (m (c, Proc.devRef .tc main_arg0)) (ix2 i (⟨k.val / 16, hk⟩ : Fin 26)) := by
    refine Eq.trans (congrFun (VA_v6 m c) _) ?_
    refine Eq.trans (congrArg _ ?_) (flatWords_at _ i (⟨k.val / 16, hk⟩ : Fin 26) hi)
    funext a; match a with | ⟨0, _⟩ => rfl
  have e2 := rowWords_toNat _ h (ix2 i (⟨k.val / 16, hk⟩ : Fin 26))
  refine Eq.trans ?_ (flatTable_at _ (⟨k.val / 16, hk⟩ : Fin 26) (⟨_, hv⟩ : Fin 100000) (⟨k.val % 16, by omega⟩ : Fin 16) (by show 100000 * (k.val / 16) + _ < 2600000; omega))
  refine Eq.trans (b := (ins m).X c (xIx (rowOf ((ins m).I c (iIx (⟨i.val * 26 + k.val / 16, hi⟩ : Fin 425984)))) (⟨k.val % 16, by omega⟩ : Fin 16))) rfl ?_
  rw [e1]
  refine Eq.trans (congrFun (VA_v7 m c) _) (congrArg _ ?_)
  funext a
  match a with
  | ⟨0, _⟩ =>
    apply Fin.ext
    show min (rowWords (m (c, Proc.devRef .tc main_arg0)) (ix2 i (⟨k.val / 16, hk⟩ : Fin 26))).toNat 2599999 = 100000 * (k.val / 16) + _
    rw [e2]
    exact Nat.min_eq_left (by show 100000 * (k.val / 16) + _ ≤ 2599999; omega)
  | ⟨1, _⟩ => rfl

end Arrays

end Cert.Proof.Run

end
-- ==== Proof.RefFrame.lean ====
/-
  The reference's own frames: it runs on the host alone and declares no counter.
-/
module

public import proofs.«01_k».proof.Proof.Frame
public import proofs.«01_k».proof.Proof.Gen.ReferenceIdeal
public import proofs.«01_k».proof.Proof.Gen.ReferenceIdeal.Run

@[expose] public section

set_option maxRecDepth 16384

noncomputable section

namespace Cert.Proof.Run
open Idealize.ShloMosaic
/-- `Cert.quiescent_ReferenceIdeal` (Defs.lean): the reference declares no counter. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- `Cert.quiescent_ReferenceIdeal_pre_in_vocab` (Defs.lean). -/
theorem frame_ref_in_vocab : Cert.quiescent_ReferenceIdeal_pre_in_vocab := fun m ρ _ => frame_ref m ρ trivial

end Cert.Proof.Run

end
-- ==== Proof.RefRead.lean ====
/-
  The reference's result at a row, over the reals: the embedded row it gathers, and the sums it makes of the row's 429 features.
-/
module

public import proofs.«01_k».proof.Proof.RefFrame
public import proofs.«01_k».proof.Proof.DenseAt
public import Idealize.ShloMosaic.Lib.WordCmp

@[expose] public section

set_option maxRecDepth 16384

noncomputable section

namespace Cert.Proof.Ref

open Cert.ReferenceIdeal Cert.ReferenceIdeal.Gen
open Idealize.ShloMosaic Idealize.ShloMosaic.TcCoe
open Cert.Proof.Run (half deepForm interForm)
open scoped BigOperators

/-! ## The result, cut into the gathered row, the features and the sums -/

/-- The category words by field, negative ones counted from the end. -/
def words (a0 : IVec S16384x26 32) : IVec S26x16384x1 32 :=
  broadcastInDim S26x16384x1 ![0, 1] bcast_S26x16384_S26x16384x1_0_1 (transpose S26x16384 [1, 0] (select (cmpi .slt a0 (broadcastInDim S16384x26 ![] bcast_S_S16384x26 (constantI S_ 32 0#32))) (addi a0 (broadcastInDim S16384x26 ![] bcast_S_S16384x26 (constantI S_ 32 100000#32))) a0) transposes_S16384x26_S26x16384_1_0)

/-- The words that name a category, as a mask. -/
def valid (a0 : IVec S16384x26 32) : IVec S26x16384x1 1 :=
  andi (cmpi .sge (words a0) (broadcastInDim S26x16384x1 ![] bcast_S_S26x16384x1 (constantI S_ 32 0#32))) (cmpi .sle (words a0) (broadcastInDim S26x16384x1 ![0, 1, 2] bcast_S1x1x1_S26x16384x1_0_1_2 (broadcastInDim S1x1x1 ![2] bcast_S1_S1x1x1_2 (constantI S1 32 99999#32))))

/-- The gathered vectors, filled where a word names no category. -/
def picked (a0 : IVec S16384x26 32) (a2 : FVec Ideal S26x100000x16 .f32) : FVec Ideal S26x16384x16 .f32 :=
  select (broadcastInDim S26x16384x16 ![0, 1] bcast_S26x16384_S26x16384x16_0_1 (Host.reduce IntOp.andi (valid a0) (constantI S_ 1 1#1) reducesTo_S26x16384x1_S26x16384_d2 h_S_)) (Host.gather gather_S26x100000x16_S26x16384x1_S26x16384x16_2_1_0_0_1_2_1116 a2 (words a0)) (broadcastInDim S26x16384x16 ![] bcast_S_S26x16384x16 (constant S_ .f32 0x7FC00000#32))

/-- The embedded row. -/
def embRow (a0 : IVec S16384x26 32) (a2 : FVec Ideal S26x100000x16 .f32) : FVec Ideal S16384x416 .f32 :=
  shapeCast _ (transpose S16384x26x16 [1, 0, 2] (picked a0 a2) transposes_S26x16384x16_S16384x26x16_1_0_2) shapeCasts_S16384x26x16_S16384x416

/-- The 429 features of a row. -/
def feats (e : FVec Ideal S16384x416 .f32) (a1 : FVec Ideal S16384x13 .f32) : FVec Ideal S16384x429 .f32 :=
  concatenate S16384x429 1 [⟨S16384x416, e⟩, ⟨S16384x13, a1⟩] concatenates_S16384x416_S16384x13_S16384x429_d1

/-- The sums made of the features. -/
def sums (x : FVec Ideal S16384x429 .f32) (a3 : FVec Ideal S429x1 .f32) (a4 : FVec Ideal S1 .f32) (a5 : FVec Ideal S429x16 .f32)
    (a6 : FVec Ideal S429x256 .f32) (a7 : FVec Ideal S256 .f32) (a8 : FVec Ideal S256x128 .f32) (a9 : FVec Ideal S128 .f32)
    (a10 : FVec Ideal S128x1 .f32) (a11 : FVec Ideal S1 .f32) : FVec Ideal S16384x1 .f32 :=
  addf (addf (addf (Host.dotGeneral dot_S16384x429_S429x1_S16384x1_1_0_0_1_n_n none x a3) (broadcastInDim S16384x1 ![0, 1] bcast_S1x1_S16384x1_0_1 (broadcastInDim S1x1 ![1] bcast_S1_S1x1_1 a4))) (mulf (broadcastInDim S16384x1 ![] bcast_S_S16384x1 (constant S_ .f32 0x3F000000#32)) (broadcastInDim S16384x1 ![0] bcast_S16384_S16384x1_0 (Host.reduceAdd (subf (mulf (Host.dotGeneral dot_S16384x429_S429x16_S16384x16_1_0_0_1_n_n none x a5) (Host.dotGeneral dot_S16384x429_S429x16_S16384x16_1_0_0_1_n_n none x a5)) (Host.dotGeneral dot_S16384x429_S429x16_S16384x16_1_0_0_1_n_n none (mulf x x) (mulf a5 a5))) (constant S_ .f32 0x00000000#32) reducesTo_S16384x16_S16384_d1 h_S_)))) (addf (Host.dotGeneral dot_S16384x128_S128x1_S16384x1_1_0_0_1_n_n none (maximumf (addf (Host.dotGeneral dot_S16384x256_S256x128_S16384x128_1_0_0_1_n_n none (maximumf (addf (Host.dotGeneral dot_S16384x429_S429x256_S16384x256_1_0_0_1_n_n none x a6) (broadcastInDim S16384x256 ![0, 1] bcast_S1x256_S16384x256_0_1 (broadcastInDim S1x256 ![1] bcast_S256_S1x256_1 a7))) (broadcastInDim S16384x256 ![] bcast_S_S16384x256 (constant S_ .f32 0x00000000#32))) a8) (broadcastInDim S16384x128 ![0, 1] bcast_S1x128_S16384x128_0_1 (broadcastInDim S1x128 ![1] bcast_S128_S1x128_1 a9))) (broadcastInDim S16384x128 ![] bcast_S_S16384x128 (constant S_ .f32 0x00000000#32))) a10) (broadcastInDim S16384x1 ![0, 1] bcast_S1x1_S16384x1_0_1 (broadcastInDim S1x1 ![1] bcast_S1_S1x1_1 a11)))

theorem res_eq (m : (ℓ : Loc nD τ sig) → Buf (Elt Ideal) ℓ) (c : Dev nD) :
    Cert.ReferenceIdeal.Value.res_main_v33 m c = sums (feats (embRow (m ((c.tc : Thread nD τ).loc main_arg0)) (m ((c.tc : Thread nD τ).loc main_arg2)))
        (m ((c.tc : Thread nD τ).loc main_arg1))) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) := by
  unfold Cert.ReferenceIdeal.Value.res_main_v33 sums feats embRow picked valid words
  rfl

theorem sums_at (x : FVec Ideal S16384x429 .f32) (a3 : FVec Ideal S429x1 .f32) (a4 : FVec Ideal S1 .f32) (a5 : FVec Ideal S429x16 .f32)
    (a6 : FVec Ideal S429x256 .f32) (a7 : FVec Ideal S256 .f32) (a8 : FVec Ideal S256x128 .f32) (a9 : FVec Ideal S128 .f32)
    (a10 : FVec Ideal S128x1 .f32) (a11 : FVec Ideal S1 .f32) (i : Fin 16384) :
    sums x a3 a4 a5 a6 a7 a8 a9 a10 a11 (ix2 i (0 : Fin 1))
      = ((∑ k : Fin 429, x (ix2 i k) * a3 (ix2 k 0)) + a4 (ix1 0))
        + interForm (fun q => ∑ k : Fin 429, x (ix2 i k) * a5 (ix2 k q))
          (fun q => ∑ k : Fin 429, x (ix2 i k) * x (ix2 i k) * (a5 (ix2 k q) * a5 (ix2 k q)))
        + (deepForm (fun g => (∑ k : Fin 429, x (ix2 i k) * a6 (ix2 k g)) + a7 (ix1 g)) (fun g h => a8 (ix2 g h)) (fun h => a9 (ix1 h))
            (fun h => a10 (ix2 h 0)) + a11 (ix1 0)) := by
  pointwise [sums]
  rfl

/-! ## The features of a row -/

theorem feats_lo (e : FVec Ideal S16384x416 .f32) (a1 : FVec Ideal S16384x13 .f32) (i : Fin 16384) (k : Fin 416) (hk : k.val < 429) :
    feats e a1 (ix2 i (⟨k.val, hk⟩ : Fin 429)) = e (ix2 i k) := by
  pointwise [feats]

theorem feats_hi (e : FVec Ideal S16384x416 .f32) (a1 : FVec Ideal S16384x13 .f32) (i : Fin 16384) (k : Fin 13) (hk : 416 + k.val < 429) :
    feats e a1 (ix2 i (⟨416 + k.val, hk⟩ : Fin 429)) = a1 (ix2 i k) := by
  pointwise [feats]

theorem embRow_at (a0 : IVec S16384x26 32) (a2 : FVec Ideal S26x100000x16 .f32) (i : Fin 16384) (k : Fin 416) :
    embRow a0 a2 (ix2 i k) = picked a0 a2 (ix3 (⟨k.val / 16, by have := k.isLt; omega⟩ : Fin 26) i (⟨k.val % 16, by omega⟩ : Fin 16)) := by
  pointwise [embRow]

/-! ## The gathered vectors -/

variable {a0 : IVec S16384x26 32} (h : Cert.Proof.Run.Vocab a0)
include h

theorem words_at (f : Fin 26) (i : Fin 16384) : words a0 (ix3 f i (0 : Fin 1)) = a0 (ix2 i f) := by
  have h1 := h (ix2 i f)
  have e : IntOp.cmpi CmpIPredicate.slt (a0 (ix2 i f)) 0#32 = 0#1 := by
    rw [WordCmp.cmpi_slt_zero, decide_eq_false (by omega)]; rfl
  pointwise [words]
  rw [e]; rfl

theorem valid_at (f : Fin 26) (i : Fin 16384) : valid a0 (ix3 f i (0 : Fin 1)) = 1#1 := by
  have h1 := h (ix2 i f)
  have e : IntOp.cmpi CmpIPredicate.sge (a0 (ix2 i f)) 0#32 = 1#1 := by
    rw [WordCmp.cmpi_sge_zero, decide_eq_true (by omega)]; rfl
  have e' : IntOp.cmpi CmpIPredicate.sle (a0 (ix2 i f)) 99999#32 = 1#1 := by
    rw [WordCmp.cmpi_sle_of_lt (by omega) (by decide), decide_eq_true (by show _ ≤ 99999; omega)]; rfl
  pointwise [valid]
  rw [words_at h, e, e']; rfl

theorem gather_at (a2 : FVec Ideal S26x100000x16 .f32) (f : Fin 26) (i : Fin 16384) (z : Fin 16) :
    Host.gather gather_S26x100000x16_S26x16384x1_S26x16384x16_2_1_0_0_1_2_1116 a2 (words a0) (ix3 f i z)
      = a2 (ix3 f (⟨(a0 (ix2 i f)).toNat, h (ix2 i f)⟩ : Fin 100000) z) := by
  have h1 := h (ix2 i f)
  refine congrArg a2 (funext fun a => ?_)
  match a with
  | ⟨0, _⟩ =>
    apply Fin.ext
    show 0 + f.val + 0 = f.val
    omega
  | ⟨1, _⟩ =>
    apply Fin.ext
    have e : gather_S26x100000x16_S26x16384x1_S26x16384x16_2_1_0_0_1_2_1116.siIdx (ix3 f i z) ⟨0, by decide⟩ = ix3 f i (0 : Fin 1) := by
      funext b
      match b with
      | ⟨0, _⟩ => rfl
      | ⟨1, _⟩ => rfl
      | ⟨2, _⟩ => rfl
    show min (words a0 (gather_S26x100000x16_S26x16384x1_S26x16384x16_2_1_0_0_1_2_1116.siIdx (ix3 f i z) ⟨0, by decide⟩)).toInt.toNat (100000 - 1) + 0 + 0
      = (a0 (ix2 i f)).toNat
    rw [e, words_at h]
    have e2 := BitVec.toInt_eq_toNat_cond (x := a0 (ix2 i f))
    split at e2 <;> omega
  | ⟨2, _⟩ =>
    apply Fin.ext
    show 0 + 0 + z.val = z.val
    omega

theorem picked_at (a2 : FVec Ideal S26x100000x16 .f32) (f : Fin 26) (i : Fin 16384) (z : Fin 16) :
    picked a0 a2 (ix3 f i z) = a2 (ix3 f (⟨(a0 (ix2 i f)).toNat, h (ix2 i f)⟩ : Fin 100000) z) := by
  have e : Finset.fold IntOp.andi (1#1) (fun x => valid a0 (ix3 f i x)) (Finset.univ : Finset (Fin 1)) = 1#1 := by
    rw [Finset.univ_unique, Finset.fold_singleton]
    show IntOp.andi (valid a0 (ix3 f i (0 : Fin 1))) 1#1 = 1#1
    rw [valid_at h]; rfl
  pointwise [picked]
  rw [e, gather_at h]; rfl

/-- Entry `k` of the embedded row `i`: field `k / 16`'s table at the row's category, column `k % 16`. -/
theorem embRow_eq (a2 : FVec Ideal S26x100000x16 .f32) (i : Fin 16384) (k : Fin 416) :
    embRow a0 a2 (ix2 i k) = a2 (ix3 (⟨k.val / 16, by have := k.isLt; omega⟩ : Fin 26)
      (⟨(a0 (ix2 i (⟨k.val / 16, by have := k.isLt; omega⟩ : Fin 26))).toNat, h _⟩ : Fin 100000) (⟨k.val % 16, by omega⟩ : Fin 16)) := by
  rw [embRow_at, picked_at h]

end Cert.Proof.Ref

end
-- ==== Proof.Value.lean ====
/-
  The kernel's result is the reference's, row by row over the reals; and with it the value claim.
-/
module

public import proofs.«01_k».proof.Proof.Final
public import proofs.«01_k».proof.Proof.Rows
public import proofs.«01_k».proof.Proof.RefRead

@[expose] public section

set_option maxRecDepth 16384

noncomputable section

namespace Cert.Proof.Run

open Cert.KernelIdeal Cert.KernelIdeal.Gen
open Idealize.ShloMosaic Idealize.ShloMosaic.TcCoe
open Idealize.SL.Sem
open scoped BigOperators

/-! ## The sums over the 429 features, in their two parts -/

section Sums
variable (E : FVec Ideal S16384x416 .f32) (a1 : FVec Ideal S16384x13 .f32) (i : Fin 16384)

theorem lin_eq (a3 : FVec Ideal S429x1 .f32) :
    (∑ k : Fin 416, E (ix2 i k) * fwLo a3 (ix2 0 k)) + (∑ k : Fin 16, contP a1 (ix2 i k) * fwHi a3 (ix2 0 k))
      = ∑ k : Fin 429, Ref.feats E a1 (ix2 i k) * a3 (ix2 k 0) := by
  refine sum_split _ _ _ (fun k => ?_) (fun k => ?_) (fun k => ?_)
  · rw [Ref.feats_lo, fwLo_at]
  · rw [Ref.feats_hi, contP_lo, fwHi_at]
  · rw [contP_hi, zero_mul]

theorem fac_eq (a5 : FVec Ideal S429x16 .f32) (q : Fin 16) :
    (∑ k : Fin 416, E (ix2 i k) * fvLo a5 (ix2 k q)) + (∑ k : Fin 16, contP a1 (ix2 i k) * fvHi a5 (ix2 k q))
      = ∑ k : Fin 429, Ref.feats E a1 (ix2 i k) * a5 (ix2 k q) := by
  refine sum_split _ _ _ (fun k => ?_) (fun k => ?_) (fun k => ?_)
  · rw [Ref.feats_lo, fvLo_at]
  · rw [Ref.feats_hi, contP_lo, fvHi_at]
  · rw [contP_hi, zero_mul]

theorem sq_eq (a5 : FVec Ideal S429x16 .f32) (q : Fin 16) :
    (∑ k : Fin 416, E (ix2 i k) * E (ix2 i k) * (fvLo a5 (ix2 k q) * fvLo a5 (ix2 k q)))
        + (∑ k : Fin 16, contP a1 (ix2 i k) * contP a1 (ix2 i k) * (fvHi a5 (ix2 k q) * fvHi a5 (ix2 k q)))
      = ∑ k : Fin 429, Ref.feats E a1 (ix2 i k) * Ref.feats E a1 (ix2 i k) * (a5 (ix2 k q) * a5 (ix2 k q)) := by
  refine sum_split _ _ _ (fun k => ?_) (fun k => ?_) (fun k => ?_)
  · rw [Ref.feats_lo, fvLo_at]
  · rw [Ref.feats_hi, contP_lo, fvHi_at]
  · rw [contP_hi, zero_mul, zero_mul]

theorem hid_eq (a6 : FVec Ideal S429x256 .f32) (g : Fin 256) :
    (∑ k : Fin 416, E (ix2 i k) * w1Lo a6 (ix2 k g)) + (∑ k : Fin 16, contP a1 (ix2 i k) * w1Hi a6 (ix2 k g))
      = ∑ k : Fin 429, Ref.feats E a1 (ix2 i k) * a6 (ix2 k g) := by
  refine sum_split _ _ _ (fun k => ?_) (fun k => ?_) (fun k => ?_)
  · rw [Ref.feats_lo, w1Lo_at]
  · rw [Ref.feats_hi, contP_lo, w1Hi_at]
  · rw [contP_hi, zero_mul]

end Sums

/-! ## A row of the kernel's result -/

/-- The two biases, added together by the kernel, are added apart by the reference. -/
theorem biases (a b c d e : EReal) : a + b + c + (d + e) = a + d + b + (c + e) := by abel

section Row
variable (m : (ℓ : Loc nD τ sig) → Buf (Elt Ideal) ℓ) (c : Dev nD)

theorem rowsOf_at {n : ℕ} {α : Type} (a : (⟨2, ![16384, n]⟩ : Shape).Idx → α) (i : Fin 16384) (k : Fin n) :
    rowsOf a (ptOf i) (ix2 (inBlk i) k) = a (ix2 i k) := by
  show a (ix2 (blkRow (ptOf i) (inBlk i)) k) = a (ix2 i k)
  rw [blkRow_ptOf]

/-- The dense body on a row's block makes the reference's sums. -/
theorem row_core (E : FVec Ideal S16384x416 .f32) (a1 : FVec Ideal S16384x13 .f32) (a3 : FVec Ideal S429x1 .f32) (a4 : FVec Ideal S1 .f32)
    (a5 : FVec Ideal S429x16 .f32) (a6 : FVec Ideal S429x256 .f32) (a7 : FVec Ideal S256 .f32) (a8 : FVec Ideal S256x128 .f32)
    (a9 : FVec Ideal S128 .f32) (a10 : FVec Ideal S128x1 .f32) (a11 : FVec Ideal S1 .f32) (i : Fin 16384)
    (x4 : FVec Ideal S1x256 .f32) (x6 : FVec Ideal S1x128 .f32) (x12 : FVec Ideal S416x16 .f32) (x13 : FVec Ideal S16x16 .f32) (x14 : FVec Ideal S1x1 .f32)
    (h4 : ∀ g, x4 (ix2 0 g) = a7 (ix1 g)) (h6 : ∀ g, x6 (ix2 0 g) = a9 (ix1 g)) (h12 : ∀ k q, x12 (ix2 k q) = fvLo a5 (ix2 k q) * fvLo a5 (ix2 k q))
    (h13 : ∀ k q, x13 (ix2 k q) = fvHi a5 (ix2 k q) * fvHi a5 (ix2 k q)) (h14 : x14 (ix2 0 0) = a4 (ix1 0) + a11 (ix1 0)) :
    dense (F := Ideal) (rowsOf (n := 416) E (ptOf i)) (rowsOf (n := 16) (contP a1) (ptOf i)) (w1Lo a6) (w1Hi a6)
        x4 a8 x6 (w3Row a10) (fwLo a3) (fwHi a3) (fvLo a5) (fvHi a5) x12 x13 x14 (ix2 (inBlk i) (0 : Fin 1))
      = Ref.sums (Ref.feats E a1) a3 a4 a5 a6 a7 a8 a9 a10 a11 (ix2 i (0 : Fin 1)) := by
  refine (dense_at _ _ _ _ _ _ _ _ _ _ _ _ _ _ _ _).trans ((?_ : _ = _).trans (Ref.sums_at _ _ _ _ _ _ _ _ _ _ i).symm)
  simp only [rowsOf_at, ← lin_eq, ← fac_eq, ← sq_eq, ← hid_eq, h4, h6, h12, h13, h14, w3Row_at]
  exact biases _ _ _ _ _

theorem ix2_eta {n k : ℕ} (j : (⟨2, ![n, k]⟩ : Shape).Idx) : j = ix2 (j 0) (j 1) := by
  funext a
  match a with
  | ⟨0, _⟩ => rfl
  | ⟨1, _⟩ => rfl

/-- The kernel's embedded rows are the reference's. -/
theorem emb_eq (h : Vocab (m (c, Proc.devRef .tc main_arg0))) :
    V2 m c (Proc.devRef .tc main_v9) = Ref.embRow (m (c, Proc.devRef .tc main_arg0)) (m (c, Proc.devRef .tc main_arg2)) := by
  funext j
  rw [ix2_eta j]
  exact (V2_v9_at m c h (j 0) (j 1)).trans (Ref.embRow_eq h _ (j 0) (j 1)).symm

theorem row_eq (h : Vocab (m (c, Proc.devRef .tc main_arg0))) (i : Fin 16384) :
    denseAll (V2 m) c (ix2 i (0 : Fin 1))
      = Ref.sums (Ref.feats (Ref.embRow (m (c, Proc.devRef .tc main_arg0)) (m (c, Proc.devRef .tc main_arg2))) (m (c, Proc.devRef .tc main_arg1)))
          (m (c, Proc.devRef .tc main_arg3)) (m (c, Proc.devRef .tc main_arg4)) (m (c, Proc.devRef .tc main_arg5)) (m (c, Proc.devRef .tc main_arg6))
          (m (c, Proc.devRef .tc main_arg7)) (m (c, Proc.devRef .tc main_arg8)) (m (c, Proc.devRef .tc main_arg9)) (m (c, Proc.devRef .tc main_arg10))
          (m (c, Proc.devRef .tc main_arg11)) (ix2 i (0 : Fin 1)) := by
  show denseBlk (V2 m) c (ptOf i) (ix2 (inBlk i) (0 : Fin 1)) = _
  unfold denseBlk
  rw [emb_eq m c h, V2_v10, V2_v11, V2_v13, V2_v16, V2_v20, V2_v21, V2_v23, V2_v24, V2_v25, V2_v27, V2_v28, V2_v29, V2_v31, V2_arg8]
  exact row_core _ _ _ _ _ _ _ _ _ _ _ i _ _ _ _ _ (rowB1_at _) (rowB2_at _) (fun _ _ => rfl) (fun _ _ => rfl) (bias_at _ _)

/-- The whole result. -/
theorem all_eq (h : Vocab (m (c, Proc.devRef .tc main_arg0))) :
    denseAll (V2 m) c
      = Ref.sums (Ref.feats (Ref.embRow (m (c, Proc.devRef .tc main_arg0)) (m (c, Proc.devRef .tc main_arg2))) (m (c, Proc.devRef .tc main_arg1)))
          (m (c, Proc.devRef .tc main_arg3)) (m (c, Proc.devRef .tc main_arg4)) (m (c, Proc.devRef .tc main_arg5)) (m (c, Proc.devRef .tc main_arg6))
          (m (c, Proc.devRef .tc main_arg7)) (m (c, Proc.devRef .tc main_arg8)) (m (c, Proc.devRef .tc main_arg9)) (m (c, Proc.devRef .tc main_arg10))
          (m (c, Proc.devRef .tc main_arg11)) := by
  funext j
  have e : j = (ix2 (j 0) (0 : Fin 1) : S16384x1.Idx) := by
    funext a
    match a with
    | ⟨0, _⟩ => rfl
    | ⟨1, _⟩ => exact Subsingleton.elim (α := Fin 1) _ _
  rw [e]
  exact row_eq m c h (j 0)

end Row

/-! ## The claim -/

/-- `Cert.algebraic_KernelIdeal_ReferenceIdeal` (Defs.lean). -/
theorem value : Cert.algebraic_KernelIdeal_ReferenceIdeal := by
  intro m g m' g' hpre hargs
  have hv : ∀ d : Dev nD, Vocab (m (d, Proc.devRef .tc main_arg0)) := fun d => vocab_of_fn (hpre d)
  refine ⟨fun c => VF m c (Proc.devRef .tc main_v32), ?_, ?_⟩
  · exact (θ_run Cert.KernelIdeal.defs _ _).mono (fun _ h => (final h).1) (run_main (F := Ideal) m g (inRange m hv))
  · refine (θ_run Cert.ReferenceIdeal.defs _ _).mono (fun r h c => ⟨(h c).1.trans ?_, (h c).2⟩) (Cert.ReferenceIdeal.Value.run (F := Ideal) m' g')
    obtain ⟨h0, h1, h2, h3, h4, h5, h6, h7, h8, h9, h10, h11⟩ := hargs c
    rw [Ref.res_eq, h0, h1, h2, h3, h4, h5, h6, h7, h8, h9, h10, h11]
    exact ((VF_out m c).trans (all_eq m c (hv c))).symm

end Cert.Proof.Run

end
-- ==== Proof.lean ====
/-
  The proof of `Cert.Claim` (Defs.lean): the frames are Proof/Frame.lean and Proof/RefFrame.lean, the value claim Proof/Value.lean.
-/
module

public import proofs.«01_k».proof.Defs
public import proofs.«01_k».proof.Proof.Value

@[expose] public section

noncomputable section

namespace Cert.Proof

/-- `Cert.Claim` (Defs.lean). -/
theorem claim : Cert.Claim :=
  ⟨Cert.Kernel.Gen.facts, Cert.KernelIdeal.Gen.facts, Cert.ReferenceIdeal.Gen.facts, Cert.Pre_in_vocab.Gen.facts,
    Run.frame_kernel, Run.frame_ideal, Run.frame_ref, Run.frame_ref_in_vocab, trivial, Run.value⟩

end Cert.Proof

end
